-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S9x256x4096 : Shape := ⟨3, ![9, 256, 4096]⟩
abbrev S2 : Shape := ⟨1, ![2]⟩
abbrev S8x2 : Shape := ⟨2, ![8, 2]⟩
abbrev S_ : Shape := ⟨0, ![]⟩
abbrev S128x4096 : Shape := ⟨2, ![128, 4096]⟩
abbrev S1x128x4096 : Shape := ⟨3, ![1, 128, 4096]⟩
abbrev S1x1 : Shape := ⟨2, ![1, 1]⟩
abbrev S128x128 : Shape := ⟨2, ![128, 128]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .fp8e4m3⟩
  | .hbm, ⟨1, _⟩ => ⟨S4096x128, .fp8e4m3⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e4m3⟩
  | .local _ .vmem, ⟨1, _⟩ => ⟨S4096x128, .fp8e4m3⟩
  | .local _ .vmem, ⟨2, _⟩ => ⟨S4096x128, .f32⟩
  | .local _ .vmem, ⟨3, _⟩ => ⟨S9x256x4096, .fp8e4m3⟩
  | .local _ .vmem, ⟨4, _⟩ => ⟨S9x256x4096, .fp8e4m3⟩
  | .local _ .vmem, ⟨5, _⟩ => ⟨S4096x128, .fp8e4m3⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v35 : BitVec 32 := Scalar.muli v24 c1_i32_28
  let v36 : BitVec 32 := Scalar.addi c0_i32_29 v35
  v36.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v45 : BitVec 32 := Scalar.muli v13 c1_i32_39
  let v46 : BitVec 32 := Scalar.addi c0_i32_40 v45
  v46.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_54 : BitVec 32 := 1#32
  let v60 : BitVec 32 := Scalar.muli v24 c1_i32_54
  let v61 : BitVec 32 := Scalar.addi c0_i32_55 v60
  v61.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v70 : BitVec 32 := Scalar.muli v13 c1_i32_64
  let v71 : BitVec 32 := Scalar.addi c0_i32_65 v70
  v71.toNat
def k0_off1 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v96 : BitVec 32 := Scalar.muli v2 c256_i32
  let v97 : BitVec 32 := Scalar.addi v96 c0_i32_82
  let v98 : Index := Scalar.indexCast v97
  let c0_83 : Index := 0#32
  ![v98.toNat, 0]
def k0_dev7 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_120 : BitVec 32 := 1#32
  let v126 : BitVec 32 := Scalar.muli v24 c1_i32_120
  let v127 : BitVec 32 := Scalar.addi c0_i32_121 v126
  v127.toNat
def k0_off2 (d0 : Dev nD) (c1_i32_126 : BitVec 32) (c0_i32_140 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v136 : BitVec 32 := Scalar.subi v2 c1_i32_126
  let c16_i32_127 : BitVec 32 := 16#32
  let c0_i32_128 : BitVec 32 := 0#32
  let v137 : BitVec 1 := Scalar.cmpi .eq c16_i32_127 c0_i32_128
  let c1_i32_129 : BitVec 32 := 1#32
  let v138 : BitVec 32 := Scalar.select v137 c1_i32_129 c16_i32_127
  let v139 : BitVec 32 := Scalar.remsi v136 v138
  let c0_i32_131 : BitVec 32 := 0#32
  let v141 : BitVec 1 := Scalar.cmpi .slt v139 c0_i32_131
  let c0_i32_132 : BitVec 32 := 0#32
  let v142 : BitVec 1 := Scalar.cmpi .slt v138 c0_i32_132
  let v143 : BitVec 1 := Scalar.xori v141 v142
  let c0_i32_130 : BitVec 32 := 0#32
  let v140 : BitVec 1 := Scalar.cmpi .ne v139 c0_i32_130
  let v144 : BitVec 1 := Scalar.andi v143 v140
  let v145 : BitVec 32 := Scalar.addi v139 v138
  let v146 : BitVec 32 := Scalar.select v144 v145 v139
  let c256_i32_139 : BitVec 32 := 256#32
  let v155 : BitVec 32 := Scalar.muli v146 c256_i32_139
  let v156 : BitVec 32 := Scalar.addi v155 c0_i32_140
  let v157 : Index := Scalar.indexCast v156
  let c0_141 : Index := 0#32
  ![v157.toNat, 0]
def k0_off2_at (r : Fin 15) : BitVec 32 × BitVec 32 :=
  if r.val < 7 then
    if r.val < 3 then
      if r.val < 1 then
        (1#32, 0#32)
      else
        if r.val < 2 then
          (1#32, 128#32)
        else
          (2#32, 0#32)
    else
      if r.val < 5 then
        if r.val < 4 then
          (2#32, 128#32)
        else
          (3#32, 0#32)
      else
        if r.val < 6 then
          (3#32, 128#32)
        else
          (4#32, 0#32)
  else
    if r.val < 11 then
      if r.val < 9 then
        if r.val < 8 then
          (4#32, 128#32)
        else
          (5#32, 0#32)
      else
        if r.val < 10 then
          (5#32, 128#32)
        else
          (6#32, 0#32)
    else
      if r.val < 13 then
        if r.val < 12 then
          (6#32, 128#32)
        else
          (7#32, 0#32)
      else
        if r.val < 14 then
          (7#32, 128#32)
        else
          (8#32, 0#32)
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_168 : BitVec 32 := 1#32
  let v173 : BitVec 32 := Scalar.muli v13 c1_i32_168
  let v174 : BitVec 32 := Scalar.addi c0_i32_169 v173
  v174.toNat
def k0_off3 (d0 : Dev nD) (c1_i32_174 : BitVec 32) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v183 : BitVec 32 := Scalar.addi v2 c1_i32_174
  let c16_i32_175 : BitVec 32 := 16#32
  let c0_i32_176 : BitVec 32 := 0#32
  let v184 : BitVec 1 := Scalar.cmpi .eq c16_i32_175 c0_i32_176
  let c1_i32_177 : BitVec 32 := 1#32
  let v185 : BitVec 32 := Scalar.select v184 c1_i32_177 c16_i32_175
  let v186 : BitVec 32 := Scalar.remsi v183 v185
  let c0_i32_179 : BitVec 32 := 0#32
  let v188 : BitVec 1 := Scalar.cmpi .slt v186 c0_i32_179
  let c0_i32_180 : BitVec 32 := 0#32
  let v189 : BitVec 1 := Scalar.cmpi .slt v185 c0_i32_180
  let v190 : BitVec 1 := Scalar.xori v188 v189
  let c0_i32_178 : BitVec 32 := 0#32
  let v187 : BitVec 1 := Scalar.cmpi .ne v186 c0_i32_178
  let v191 : BitVec 1 := Scalar.andi v190 v187
  let v192 : BitVec 32 := Scalar.addi v186 v185
  let v193 : BitVec 32 := Scalar.select v191 v192 v186
  let c256_i32_188 : BitVec 32 := 256#32
  let v202 : BitVec 32 := Scalar.muli v193 c256_i32_188
  let v203 : BitVec 32 := Scalar.addi v202 c0_i32_189
  let v204 : Index := Scalar.indexCast v203
  let c0_190 : Index := 0#32
  ![v204.toNat, 0]
def k0_off3_at (r : Fin 15) : BitVec 32 × BitVec 32 :=
  if r.val < 7 then
    if r.val < 3 then
      if r.val < 1 then
        (1#32, 0#32)
      else
        if r.val < 2 then
          (1#32, 128#32)
        else
          (2#32, 0#32)
    else
      if r.val < 5 then
        if r.val < 4 then
          (2#32, 128#32)
        else
          (3#32, 0#32)
      else
        if r.val < 6 then
          (3#32, 128#32)
        else
          (4#32, 0#32)
  else
    if r.val < 11 then
      if r.val < 9 then
        if r.val < 8 then
          (4#32, 128#32)
        else
          (5#32, 0#32)
      else
        if r.val < 10 then
          (5#32, 128#32)
        else
          (6#32, 0#32)
    else
      if r.val < 13 then
        if r.val < 12 then
          (6#32, 128#32)
        else
          (7#32, 0#32)
      else
        if r.val < 14 then
          (7#32, 128#32)
        else
          (8#32, 128#32)
def k0_dev9 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_217 : BitVec 32 := 1#32
  let v220 : BitVec 32 := Scalar.muli v24 c1_i32_217
  let v221 : BitVec 32 := Scalar.addi c0_i32_218 v220
  v221.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_266 : BitVec 32 := 1#32
  let v267 : BitVec 32 := Scalar.muli v13 c1_i32_266
  let v268 : BitVec 32 := Scalar.addi c0_i32_267 v267
  v268.toNat
def k0_dev11 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_314 : BitVec 32 := 1#32
  let v314 : BitVec 32 := Scalar.muli v24 c1_i32_314
  let v315 : BitVec 32 := Scalar.addi c0_i32_315 v314
  v315.toNat
def k0_dev12 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_362 : BitVec 32 := 1#32
  let v361 : BitVec 32 := Scalar.muli v13 c1_i32_362
  let v362 : BitVec 32 := Scalar.addi c0_i32_363 v361
  v362.toNat
def k0_dev13 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_411 : BitVec 32 := 1#32
  let v408 : BitVec 32 := Scalar.muli v24 c1_i32_411
  let v409 : BitVec 32 := Scalar.addi c0_i32_412 v408
  v409.toNat
def k0_dev14 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_460 : BitVec 32 := 1#32
  let v455 : BitVec 32 := Scalar.muli v13 c1_i32_460
  let v456 : BitVec 32 := Scalar.addi c0_i32_461 v455
  v456.toNat
def k0_dev15 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_508 : BitVec 32 := 1#32
  let v502 : BitVec 32 := Scalar.muli v24 c1_i32_508
  let v503 : BitVec 32 := Scalar.addi c0_i32_509 v502
  v503.toNat
def k0_dev16 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_556 : BitVec 32 := 1#32
  let v549 : BitVec 32 := Scalar.muli v13 c1_i32_556
  let v550 : BitVec 32 := Scalar.addi c0_i32_557 v549
  v550.toNat
def k0_dev17 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_605 : BitVec 32 := 1#32
  let v596 : BitVec 32 := Scalar.muli v24 c1_i32_605
  let v597 : BitVec 32 := Scalar.addi c0_i32_606 v596
  v597.toNat
def k0_dev18 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_654 : BitVec 32 := 1#32
  let v643 : BitVec 32 := Scalar.muli v13 c1_i32_654
  let v644 : BitVec 32 := Scalar.addi c0_i32_655 v643
  v644.toNat
def k0_dev19 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_702 : BitVec 32 := 1#32
  let v690 : BitVec 32 := Scalar.muli v24 c1_i32_702
  let v691 : BitVec 32 := Scalar.addi c0_i32_703 v690
  v691.toNat
def k0_dev20 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_750 : BitVec 32 := 1#32
  let v737 : BitVec 32 := Scalar.muli v13 c1_i32_750
  let v738 : BitVec 32 := Scalar.addi c0_i32_751 v737
  v738.toNat
def k0_dev21 (d0 : Dev nD) : Nat :=
  let c0_i32_800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_799 : BitVec 32 := 1#32
  let v784 : BitVec 32 := Scalar.muli v24 c1_i32_799
  let v785 : BitVec 32 := Scalar.addi c0_i32_800 v784
  v785.toNat
def k0_dev22 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_848 : BitVec 32 := 1#32
  let v831 : BitVec 32 := Scalar.muli v13 c1_i32_848
  let v832 : BitVec 32 := Scalar.addi c0_i32_849 v831
  v832.toNat
def k0_dev23 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_896 : BitVec 32 := 1#32
  let v878 : BitVec 32 := Scalar.muli v24 c1_i32_896
  let v879 : BitVec 32 := Scalar.addi c0_i32_897 v878
  v879.toNat
def k0_dev24 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_944 : BitVec 32 := 1#32
  let v925 : BitVec 32 := Scalar.muli v13 c1_i32_944
  let v926 : BitVec 32 := Scalar.addi c0_i32_945 v925
  v926.toNat
def k0_dev25 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_993 : BitVec 32 := 1#32
  let v972 : BitVec 32 := Scalar.muli v24 c1_i32_993
  let v973 : BitVec 32 := Scalar.addi c0_i32_994 v972
  v973.toNat
def k0_dev26 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1042 : BitVec 32 := 1#32
  let v1019 : BitVec 32 := Scalar.muli v13 c1_i32_1042
  let v1020 : BitVec 32 := Scalar.addi c0_i32_1043 v1019
  v1020.toNat
def k0_dev27 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1090 : BitVec 32 := 1#32
  let v1066 : BitVec 32 := Scalar.muli v24 c1_i32_1090
  let v1067 : BitVec 32 := Scalar.addi c0_i32_1091 v1066
  v1067.toNat
def k0_dev28 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1138 : BitVec 32 := 1#32
  let v1113 : BitVec 32 := Scalar.muli v13 c1_i32_1138
  let v1114 : BitVec 32 := Scalar.addi c0_i32_1139 v1113
  v1114.toNat
def k0_dev29 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1187 : BitVec 32 := 1#32
  let v1160 : BitVec 32 := Scalar.muli v24 c1_i32_1187
  let v1161 : BitVec 32 := Scalar.addi c0_i32_1188 v1160
  v1161.toNat
def k0_dev30 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1236 : BitVec 32 := 1#32
  let v1207 : BitVec 32 := Scalar.muli v13 c1_i32_1236
  let v1208 : BitVec 32 := Scalar.addi c0_i32_1237 v1207
  v1208.toNat
def k0_dev31 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1284 : BitVec 32 := 1#32
  let v1254 : BitVec 32 := Scalar.muli v24 c1_i32_1284
  let v1255 : BitVec 32 := Scalar.addi c0_i32_1285 v1254
  v1255.toNat
def k0_dev32 (d0 : Dev nD) : Nat :=
  let c0_i32_1389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1388 : BitVec 32 := 1#32
  let v1363 : BitVec 32 := Scalar.muli v13 c1_i32_1388
  let v1364 : BitVec 32 := Scalar.addi c0_i32_1389 v1363
  v1364.toNat
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Clean.lean ====
/- The kernel body, told without its repetitions.

   The program writes out thirty neighbour transfers and thirty-two tile products one after another. Here the
   same effects in the same order are written with one definition per kind of step: the staging of a half of the
   device's own rows (`stageHalf`), a tile product (`tileOf`), a turn on a chain (`turn`: wait for what arrives,
   let the previous source go, pass the arrived half on, multiply it), and the last waits (`drain`).
   `body_eq` says that the printed body is that program. -/
module

public import proofs.«01_k».proof.Proof.Gen.KernelIdeal
public import proofs.«01_k».proof.Proof.Gen.KernelIdeal.Skeleton

@[expose] public section

noncomputable section

namespace Cert.Fan

open Cert.KernelIdeal Cert.KernelIdeal.Gen
open Idealize.ShloMosaic Idealize.ShloMosaic.TcCoe
open Idealize.SL Idealize.SL.Sem

variable {F : FTy → Type} [FloatOps F]

/-- How many times a half travels on its chain: direction `d` (`false` to the right, `true` to the left), half `s`. -/
def hops : Bool → Fin 2 → ℕ
  | false, 0 => 8
  | false, 1 => 7
  | true, 0 => 7
  | true, 1 => 8

/-- The buffer of slots of a direction. -/
def bufM : Bool → Memref sig .tc .vmem S9x256x4096 .fp8e4m3
  | false => Memref.whole cc0_scratch0
  | true => Memref.whole cc0_scratch1

theorem bufM_whole : ∀ d, (bufM d).IsWhole
  | false => Memref.isWhole_whole _
  | true => Memref.isWhole_whole _

theorem rect_inb : ∀ (j : Fin 9) (s : Fin 2), ∀ a, (![j.val, 128 * s.val, 0] : Fin 3 → Nat) a + S1x128x4096.size a ≤ S9x256x4096.size a := by
  decide
/-- The rows of half `s` of slot `j`. -/
def rect (j : Fin 9) (s : Fin 2) : Rect S9x256x4096 :=
  Rect.unit (s := S9x256x4096) ![j.val, 128 * s.val, 0] S1x128x4096.size (rect_inb j s)
theorem rect_words : ∀ (j : Fin 9) (s : Fin 2), (rect j s).WholeWords (EltTy.packing .fp8e4m3) := by decide
theorem rect_packed : ∀ (j : Fin 9) (s : Fin 2), (rect j s).PackedRows (EltTy.packing .fp8e4m3) := by decide

/-- Half `s` of slot `j` of direction `d`'s buffer, as a view. -/
def slotM (d : Bool) (j : Fin 9) (s : Fin 2) : Memref sig .tc .vmem S128x4096 .fp8e4m3 :=
  ((bufM d).slice (Rect.unit (s := S9x256x4096) ![j.val, 128 * s.val, 0] S1x128x4096.size (rect_inb j s)) (fun _ => rfl)).squeeze
    S128x4096 squeezes_S1x128x4096_S128x4096
theorem slotM_words (d : Bool) (j : Fin 9) (s : Fin 2) : (slotM d j s).view.WordExact :=
  ((bufM_whole d).wordExact_slice rfl _ (rect_words j s)).reshape _ _

/-- Which buffer hop `p` of direction `d` reads: the device's own rows lie in the right-going buffer, for both. -/
def srcBuf (d : Bool) (p : Fin 8) : Bool := if p.val = 0 then false else d
/-- What hop `p` reads and what it writes. -/
def srcM (d : Bool) (p : Fin 8) (s : Fin 2) : Memref sig .tc .vmem S128x4096 .fp8e4m3 := slotM (srcBuf d p) p.castSucc s
def dstM (d : Bool) (p : Fin 8) (s : Fin 2) : Memref sig .tc .vmem S128x4096 .fp8e4m3 := slotM d p.succ s

theorem snd_inb : ∀ (s : Fin 2), ∀ a, (![s.val] : Fin 1 → Nat) a + S1.size a ≤ S2.size a := by decide
theorem rcv_inb : ∀ (p : Fin 8) (s : Fin 2), ∀ a, (![p.val, s.val] : Fin 2 → Nat) a + S1x1.size a ≤ S8x2.size a := by decide
/-- The semaphore that says a source may be written again, per chain. -/
def sndS (d : Bool) (s : Fin 2) : DmaSem sig :=
  (((match d with | false => cc0_scratch3 | true => cc0_scratch5 : DmaSems sig S2).slice (Rect.unit (s := S2) ![s.val] S1.size (snd_inb s))).squeeze S_ squeezes_S1_S_).sem
/-- The semaphore that says hop `p` of a chain has arrived. -/
def rcvS (d : Bool) (p : Fin 8) (s : Fin 2) : DmaSem sig :=
  (((match d with | false => cc0_scratch4 | true => cc0_scratch6 : DmaSems sig S8x2).slice (Rect.unit (s := S8x2) ![p.val, s.val] S1x1.size (rcv_inb p s))).squeeze S_ squeezes_S1x1_S_).sem
/-- The barrier semaphore. -/
def barS : Sem sig := (SemArray.scalar (sig.barrier 0 rfl) : Sems sig S_).sem

/-- The neighbour a direction sends to. -/
def nb : Bool → Dev nD → Dev nD
  | false, c => ⟨k0_dev2 c, k0_dev2_lt c⟩
  | true, c => ⟨k0_dev1 c, k0_dev1_lt c⟩

/-- Hop `p` of a chain. -/
def send (c : Dev nD) (d : Bool) (p : Fin 8) (s : Fin 2) : Prog (TpuEff nD τ sig (Elt F) Λ₀ .tc) PUnit :=
  Prog.lift (.enqueueDma (srcM d p s) (.remote (Dev.tc (nb d c)) (dstM d p s) (.dma (sndS d s))) (.dma (rcvS d p s))
    (slotM_words _ _ s) (slotM_words d _ s) ⟨⟨rfl, Or.inl rfl⟩, trivial⟩)
def waitArrive (d : Bool) (p : Fin 8) (s : Fin 2) : Prog (TpuEff nD τ sig (Elt F) Λ₀ .tc) PUnit :=
  Prog.lift (.waitDma2 (rcvS d p s) (srcM d p s) (dstM d p s) (slotM_words _ _ s) (slotM_words d _ s))
def waitLeave (d : Bool) (p : Fin 8) (s : Fin 2) : Prog (TpuEff nD τ sig (Elt F) Λ₀ .tc) PUnit :=
  Prog.lift (.waitDma2 (sndS d s) (dstM d p s) (srcM d p s) (slotM_words d _ s) (slotM_words _ _ s))

abbrev xM : Memref sig .tc .vmem S256x4096 .fp8e4m3 := Memref.whole cc0_stg0_0
abbrev wM : Memref sig .tc .vmem S4096x128 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x128 .f32 := Memref.whole cc0_stg4_0
abbrev w8M : Memref sig .tc .vmem S4096x128 .fp8e4m3 := Memref.whole cc0_scratch2

theorem xrect_inb : ∀ (s : Fin 2), ∀ a, (![128 * s.val, 0] : Fin 2 → Nat) a + S128x4096.size a ≤ S256x4096.size a := by decide
def xrect (s : Fin 2) : Rect S256x4096 := Rect.unit (s := S256x4096) ![128 * s.val, 0] S128x4096.size (xrect_inb s)

/-- Half `s` of the device's own rows into slot 0, and off both ways. -/
def stageHalf (c : Dev nD) (s : Fin 2) : Prog (TpuEff nD τ sig (Elt F) Λ₀ .tc) PUnit := do
  let v : Vec F S128x4096 .fp8e4m3 ← Prog.lift (.load xM (Rect.unit (s := S256x4096) ![128 * s.val, 0] S128x4096.size (xrect_inb s)).toLoadRect (View.loadsAt_vmem h_S128x4096))
  let _ : Vec F S1x128x4096 .fp8e4m3 ← Prog.lift (.load (bufM false) (Rect.unit (s := S9x256x4096) ![(0 : Fin 9).val, 128 * s.val, 0] S1x128x4096.size (rect_inb 0 s)).toLoadRect (View.loadsAt_vmem h_S1x128x4096))
  Prog.lift (.store (bufM false) (Rect.unit (s := S9x256x4096) ![(0 : Fin 9).val, 128 * s.val, 0] S1x128x4096.size (rect_inb 0 s)) (k0_pay1 v) Finset.univ
    (View.stores_vmem h_S1x128x4096 ((bufM_whole false).storeExact_slice rfl _ (rect_packed 0 s)) (fun _ => rfl)) (.inl rfl))
  send c false 0 s
  send c true 0 s

/-- The rows a tile goes to: of the device `h` to the left (`false`) or to the right (`true`), half `s`. -/
def offs : Bool → Dev nD → ℕ → Fin 2 → Fin 2 → Nat
  | false, c, h, s => k0_off2 c (BitVec.ofNat 32 h) (BitVec.ofNat 32 (128 * s.val))
  | true, c, h, s => k0_off3 c (BitVec.ofNat 32 h) (BitVec.ofNat 32 (128 * s.val))
theorem offs_inb : ∀ (d : Bool) (c : Dev nD) (p : Fin 8) (s : Fin 2), ∀ a, offs d c (p.val + 1) s a + S128x128.size a ≤ S4096x128.size a := by
  decide +kernel

/-- A tile: a half in a slot against the device's columns, stored at `off`. -/
def tileOf (d : Bool) (j : Fin 9) (s : Fin 2) (sc : F .f32) (off : Fin 2 → Nat) (hoff : ∀ a, off a + S128x128.size a ≤ S4096x128.size a) :
    Prog (TpuEff nD τ sig (Elt F) Λ₀ .tc) PUnit := do
  let v : Vec F S1x128x4096 .fp8e4m3 ← Prog.lift (.load (bufM d) (Rect.unit (s := S9x256x4096) ![j.val, 128 * s.val, 0] S1x128x4096.size (rect_inb j s)).toLoadRect (View.loadsAt_vmem h_S1x128x4096))
  let w : Vec F S4096x128 .fp8e4m3 ← Prog.lift (.load w8M (Rect.unit (s := S4096x128) ![0, 0] S4096x128.size inb_S4096x128_S4096x128_0_0).toLoadRect (View.loadsAt_vmem h_S4096x128))
  let _ : Vec F S128x128 .f32 ← Prog.lift (.load oM (Rect.unit (s := S4096x128) off S128x128.size hoff).toLoadRect (View.loadsAt_vmem h_S128x128))
  Prog.lift (.store oM (Rect.unit (s := S4096x128) off S128x128.size hoff) (k0_pay8 sc v w) Finset.univ (View.stores_vmem_bits_univ h_S128x128 rfl) (.inl rfl))

/-- A turn of a chain that goes on: what hop `p` brought has arrived, the previous source is free again, the half
    that came goes on to the neighbour, and its tile is computed meanwhile. -/
def turn (c : Dev nD) (sc : F .f32) (d : Bool) (p : Fin 7) (s : Fin 2) : Prog (TpuEff nD τ sig (Elt F) Λ₀ .tc) PUnit := do
  waitArrive d p.castSucc s
  waitLeave d p.castSucc s
  send c d p.succ s
  tileOf d p.castSucc.succ s sc (offs d c (p.val + 1) s) (offs_inb d c p.castSucc s)

/-- The last turn of a chain: what hop `p` brought has arrived and goes no further. -/
def lastTurn (c : Dev nD) (sc : F .f32) (d : Bool) (p : Fin 8) (s : Fin 2) : Prog (TpuEff nD τ sig (Elt F) Λ₀ .tc) PUnit := do
  waitArrive d p s
  tileOf d p.succ s sc (offs d c (p.val + 1) s) (offs_inb d c p s)

/-- Turns of the four chains while all four go on. -/
def rounds (c : Dev nD) (sc : F .f32) : List (Fin 7) → Prog (TpuEff nD τ sig (Elt F) Λ₀ .tc) PUnit
  | [] => pure ⟨⟩
  | p :: ps => do
    turn c sc false p 0
    turn c sc true p 0
    turn c sc false p 1
    turn c sc true p 1
    rounds c sc ps

/-- Two chains end one turn before the others. -/
def endings (c : Dev nD) (sc : F .f32) : Prog (TpuEff nD τ sig (Elt F) Λ₀ .tc) PUnit := do
  turn c sc false 6 0
  lastTurn c sc true 6 0
  lastTurn c sc false 6 1
  turn c sc true 6 1
  lastTurn c sc false 7 0
  lastTurn c sc true 7 1

/-- The handshake with both neighbours. -/
def greet (c : Dev nD) : Prog (TpuEff nD τ sig (Elt F) Λ₀ .tc) PUnit := do
  semSignalWord (nb true c) barS 1#32
  semSignalWord (nb false c) barS 1#32
  semWaitWord barS 2#32

/-- The device's columns into their scratch buffer. -/
def stageW : Prog (TpuEff nD τ sig (Elt F) Λ₀ .tc) PUnit := do
  let v : Vec F S4096x128 .fp8e4m3 ← Prog.lift (.load wM (Rect.unit (s := S4096x128) ![0, 0] S4096x128.size inb_S4096x128_S4096x128_0_0).toLoadRect (View.loadsAt_vmem h_S4096x128))
  let _ : Vec F S4096x128 .fp8e4m3 ← Prog.lift (.load w8M (Rect.unit (s := S4096x128) ![0, 0] S4096x128.size inb_S4096x128_S4096x128_0_0).toLoadRect (View.loadsAt_vmem h_S4096x128))
  Prog.lift (.store w8M (Rect.unit (s := S4096x128) ![0, 0] S4096x128.size inb_S4096x128_S4096x128_0_0) (k0_pay4 v) Finset.univ
    (View.stores_vmem h_S4096x128 ((Memref.isWhole_whole _).storeExact_slice rfl _ packedfp8e4m3_S4096x128_S4096x128_0_0) (fun _ => rfl)) (.inl rfl))

/-- The last waits: every chain's last source. -/
def drain : Prog (TpuEff nD τ sig (Elt F) Λ₀ .tc) PUnit := do
  waitLeave false 7 0
  waitLeave false 6 1
  waitLeave true 6 0
  waitLeave true 7 1

/-- From the scales on. -/
def finish (c : Dev nD) (sc : F .f32) : Prog (TpuEff nD τ sig (Elt F) Λ₀ .tc) PUnit := do
  tileOf false 0 0 sc (k0_off1 c 0#32) (k0_off1_inb c 0)
  tileOf false 0 1 sc (k0_off1 c 128#32) (k0_off1_inb c 1)
  rounds c sc [0, 1, 2, 3, 4, 5]
  endings c sc
  drain

/-- The whole body. -/
def clean : Prog (TpuEff nD τ sig (Elt F) Λ₀ .tc) PUnit := do
  let c : Dev nD ← Prog.lift .deviceId
  greet c
  stageHalf c 0
  stageHalf c 1
  stageW
  let v85 : Elt F .f32 ← smemLoad sxM (Rect.unit (s := S1) ![0] S1.size inb_S1_S1_0) numel1_S1 rfl
  let v86 : Elt F .f32 ← smemLoad swM (Rect.unit (s := S1) ![0] S1.size inb_S1_S1_0) numel1_S1 rfl
  finish c (k0_pay5 v85 v86)

theorem step_eq {α β : Type} {e : TpuEff nD τ sig (Elt F) Λ₀ .tc β} {k k' : β → Prog (TpuEff nD τ sig (Elt F) Λ₀ .tc) α}
    (h : ∀ v, k v = k' v) : Prog.op e k = Prog.op e k' := congrArg _ (funext h)

set_option maxRecDepth 65536 in
set_option maxHeartbeats 4000000 in
/-- The printed body is the body told without its repetitions. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 = clean := by
  repeat refine step_eq fun v => ?_
  rfl

end Cert.Fan

end
-- ==== Proof.Slots.lean ====
/- What lies in the slots.

   Every slot of a device's two buffers ends up, if at all, with one half of some device's rows, and which device's is
   a matter of the slot's number alone. `slotAt` is a slot's contents under that reading, a view's write into the launch
   memory, so that neither the staging nor a hop needs any index arithmetic: both are writes through the same elements. -/
module

public import proofs.«01_k».proof.Proof.Clean
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user's resources: the staging's and those of the handshakes between the devices, whose duties are told apart by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Whose rows slot `j` of direction `d` holds on device `c`. -/
def org (d : Bool) (c : Dev nD) (j : Fin 9) : Dev nD :=
  match d with
  | false => ⟨(c.val + 16 - j.val) % 16, Nat.mod_lt _ (by decide)⟩
  | true => ⟨(c.val + j.val) % 16, Nat.mod_lt _ (by decide)⟩

theorem org_zero (d : Bool) (c : Dev nD) : org d c 0 = c := by revert d c; decide +kernel
/-- A hop takes a half to the next slot of the same origin. -/
theorem org_hop (d : Bool) (c : Dev nD) (p : Fin 8) : org d (nb d c) p.succ = org (srcBuf d p) c p.castSucc := by
  revert d c p; decide +kernel
theorem nb_nb (d : Bool) (c : Dev nD) : nb d (nb (!d) c) = c := by revert d c; decide +kernel
theorem nb_ne (c : Dev nD) : nb true c ≠ nb false c := by revert c; decide +kernel
/-- The neighbour in a direction, as a permutation of the devices. -/
def around (d : Bool) : Dev nD ≃ Dev nD :=
  ⟨nb d, nb (!d), fun c => by have := nb_nb (!d) c; rwa [Bool.not_not] at this, fun c => nb_nb d c⟩

/-- Device `c`'s own rows, as staged. -/
def xin (c : Dev nD) : (cc0_stg0_0 : Ref sig .tc).ty.Contents (Elt F) :=
  (win0_0.blk (0 : Fin 1)).view.read (Elt F) (m ((c : Thread nD τ).loc main_arg0))
/-- Device `c`'s own columns, as staged. -/
def win (c : Dev nD) : (cc0_stg1_0 : Ref sig .tc).ty.Contents (Elt F) :=
  (win0_1.blk (0 : Fin 1)).view.read (Elt F) (m ((c : Thread nD τ).loc main_arg1))
/-- The two scales, as staged. -/
def sxin (c : Dev nD) : (cc0_stg2_0 : Ref sig .tc).ty.Contents (Elt F) :=
  (win0_2.blk (0 : Fin 1)).view.read (Elt F) (m ((c : Thread nD τ).loc main_arg2))
def swin (c : Dev nD) : (cc0_stg3_0 : Ref sig .tc).ty.Contents (Elt F) :=
  (win0_3.blk (0 : Fin 1)).view.read (Elt F) (m ((c : Thread nD τ).loc main_arg3))

/-- Half `s` of device `c`'s rows, as the staging step stores it. -/
def slab (c : Dev nD) (s : Fin 2) : FVec F S1x128x4096 .fp8e4m3 :=
  k0_pay1 (xM.view.readAt (Elt F) (Rect.unit (s := S256x4096) ![128 * s.val, 0] S128x4096.size (xrect_inb s)).toLoadRect (xin m c))

/-- A slot's elements in its buffer. -/
def slotV (d : Bool) (j : Fin 9) (s : Fin 2) : View sig .tc .vmem S1x128x4096 .fp8e4m3 :=
  (bufM d).access (Rect.unit (s := S9x256x4096) ![j.val, 128 * s.val, 0] S1x128x4096.size (rect_inb j s))

/-- Contents of a buffer with the right half in slot `(j, s)`. -/
def slotAt (c : Dev nD) (d : Bool) (j : Fin 9) (s : Fin 2) : Buf (Elt F) ((slotV d j s).loc (c : Thread nD τ)) :=
  (slotV d j s).write (Elt F) (m ((slotV d j s).loc (c : Thread nD τ))) (slab m (org d c j) s) Finset.univ

theorem slotM_set (d : Bool) (j : Fin 9) (s : Fin 2) : (slotM d j s).view.set = (slotV d j s).set := by
  show ((slotV d j s).reshape _ _).set = _
  exact View.set_reshape _ _

/-- Holding share `q` of a slot's elements. -/
def slotPt (c : Dev nD) (d : Bool) (j : Fin 9) (s : Fin 2) (q : PosShare TreeShare) (f : Buf (Elt F) ((slotV d j s).loc (c : Thread nD τ))) : sProp 𝕄 :=
  (slotV d j s).loc (c : Thread nD τ) ↦[(slotV d j s).set]{q} f

/-- Holding share `q` of a slot that has its half. -/
def slotC (c : Dev nD) (d : Bool) (j : Fin 9) (s : Fin 2) (q : PosShare TreeShare) : sProp 𝕄 := slotPt c d j s q (slotAt m c d j s)

/-- Holding a slot outright, with anything in it. -/
def slotE (c : Dev nD) (d : Bool) (j : Fin 9) (s : Fin 2) : sProp 𝕄 := iprop(∃ f, slotPt c d j s fullShare f)

instance slotPt_storable (c : Dev nD) (d j s q f) : BI.Storable (upEmb : UEmb _ 𝕄) (slotPt (F := F) c d j s q f) := by unfold slotPt; infer_instance
instance slotC_storable (c : Dev nD) (d j s q) : BI.Storable (upEmb : UEmb _ 𝕄) (slotC m c d j s q) := by unfold slotC; infer_instance
instance slotE_storable (c : Dev nD) (d j s) : BI.Storable (upEmb : UEmb _ 𝕄) (slotE (F := F) c d j s) := by unfold slotE; infer_instance

/-- What a load of a slot with its half reads. -/
theorem slot_read (c : Dev nD) (d : Bool) (j : Fin 9) (s : Fin 2) :
    (bufM d).view.readAt (Elt F) (Rect.unit (s := S9x256x4096) ![j.val, 128 * s.val, 0] S1x128x4096.size (rect_inb j s)).toLoadRect (slotAt m c d j s)
      = slab m (org d c j) s := by
  show (slotV d j s).read (Elt F) (slotAt m c d j s) = _
  funext x
  exact View.read_write_of_mem _ _ (Finset.mem_univ x)

/-- The staging step's store puts a half where `slotAt` says it is. -/
theorem stage_write (c : Dev nD) (s : Fin 2) (f : Buf (Elt F) ((slotV false 0 s).loc (c : Thread nD τ))) :
    ∀ i ∈ (slotV false 0 s).set, (slotV false 0 s).write (Elt F) f (slab m c s) Finset.univ i = slotAt m c false 0 s i := by
  intro i hi
  obtain ⟨x, -, rfl⟩ := Finset.mem_map.mp hi
  unfold slotAt
  rw [View.write_emb_of_mem _ _ (Finset.mem_univ x), View.write_emb_of_mem _ _ (Finset.mem_univ x), org_zero]

/-- What a hop lands is the half of the slot it lands in. -/
theorem hop_write (c : Dev nD) (d : Bool) (p : Fin 8) (s : Fin 2) (fd : Buf (Elt F) ((dstM d p s).view.loc (nb d c : Thread nD τ))) :
    ∀ i ∈ (dstM d p s).view.set,
      (dstM d p s).view.write (Elt F) fd ((srcM d p s).view.read (Elt F) (slotAt m c (srcBuf d p) p.castSucc s)) Finset.univ i
        = slotAt m (nb d c) d p.succ s i := by
  intro i hi
  obtain ⟨x, -, rfl⟩ := Finset.mem_map.mp hi
  rw [View.write_emb_of_mem _ _ (Finset.mem_univ x)]
  have e1 : (dstM d p s).view.emb x = (slotV d p.succ s).emb (Shape.reshapeEquiv (squeezes_S1x128x4096_S128x4096).numel_eq x) := rfl
  have e2 : (srcM d p s).view.read (Elt F) (slotAt m c (srcBuf d p) p.castSucc s) x
      = (slotV (srcBuf d p) p.castSucc s).read (Elt F) (slotAt m c (srcBuf d p) p.castSucc s) (Shape.reshapeEquiv (squeezes_S1x128x4096_S128x4096).numel_eq x) := rfl
  rw [e1, e2]
  unfold slotAt
  rw [View.write_emb_of_mem _ _ (Finset.mem_univ _), org_hop]
  exact congrArg _ (View.read_write_of_mem _ _ (Finset.mem_univ _))

end Cert.Fan

end
-- ==== Proof.Protocol.lean ====
/- The handshakes between the devices, as a table.

   A device has one barrier cell, four cells that say a source may be written again (one per chain: a direction and a
   half), and one cell for every hop of every chain, that says the hop has arrived. The table says round by round who
   raises a cell, by how much and what is handed over with the raise; then come the ranks of the cells, which
   decide what may be owed during which wait, and what a device owes as its transfers go out. -/
module

public import proofs.«01_k».proof.Proof.Slots

@[expose] public section

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- A chain: a direction and a half. -/
abbrev Ch : Type := Bool × Fin 2
/-- A chain's number of hops. -/
abbrev len (ch : Ch) : ℕ := hops ch.1 ch.2
theorem len_le (ch : Ch) : len ch ≤ 8 := by revert ch; decide
theorem len_pos (ch : Ch) : 0 < len ch := by revert ch; decide

/-- A device's own cells: a chain's "source free again", a hop's "arrived". -/
abbrev Own : Type := Ch ⊕ (Ch × Fin 8)
def osem : Own → SemLoc sig
  | .inl ch => .dma (sndS ch.1 ch.2)
  | .inr x => .dma (rcvS x.1.1 x.2 x.1.2)
/-- All of a device's cells: its own and the barrier's. -/
abbrev Cx : Type := Option Own
def csem : Cx → SemLoc sig
  | none => .reg barS
  | some k => osem k

theorem csem_ne : ∀ k k' : Cx, k = k' ∨ ¬ csem k = csem k' := by decide +kernel
theorem csem_inj (k k' : Cx) (h : csem k = csem k') : k = k' := (csem_ne k k').resolve_right fun hn => hn h

abbrev cell (c : Dev nD) (k : Cx) : GSem nD τ sig := ((c : Thread nD τ), csem k)
abbrev barC (c : Dev nD) : GSem nD τ sig := cell c none
abbrev sndC (c : Dev nD) (ch : Ch) : GSem nD τ sig := cell c (some (.inl ch))
abbrev rcvC (c : Dev nD) (ch : Ch) (p : Fin 8) : GSem nD τ sig := cell c (some (.inr (ch, p)))

open Classical in
/-- Which of a device's cells a semaphore is, if any. -/
def what (sm : SemLoc sig) : Option Cx := if h : ∃ k, csem k = sm then some h.choose else none
theorem what_csem (k : Cx) : what (csem k) = some k := by
  have h : ∃ k', csem k' = csem k := ⟨k, rfl⟩
  unfold what
  rw [dif_pos h]
  exact congrArg some (csem_inj _ _ h.choose_spec)

/-- The credit of one hop. -/
def N : ℕ := (slotM false 0 0).view.dmaCredit
theorem N_pos : 0 < N := View.dmaCredit_pos _ (by decide)
theorem credit_eq : ∀ (d : Bool) (j : Fin 9) (s : Fin 2), (slotM d j s).view.dmaCredit = N
  | false, _, _ => rfl
  | true, _, _ => rfl

/-! ## The table -/

/-- The share of its source a hop takes along: the device's own rows leave both ways at once, so each way takes a
    quarter; what arrived goes on with a half. The other half stays for the tile. -/
def lentQ (d : Bool) (p : Fin 8) : PosShare TreeShare :=
  if p.val = 0 then (if d then fullShare.left.right else fullShare.left.left) else fullShare.left

/-- What a hop takes along, and gets back when its source is free again. -/
def lent (c : Dev nD) (ch : Ch) (p : Fin 8) : sProp 𝕄 := slotC m c (srcBuf ch.1 p) p.castSucc ch.2 (lentQ ch.1 p)
/-- What a hop brings. -/
def brought (c : Dev nD) (ch : Ch) (p : Fin 8) : sProp 𝕄 := slotC m c ch.1 p.succ ch.2 fullShare
/-- Where a chain's hops from `c` are to land: the hops that it has, from number `n` on. -/
def ahead (ch : Ch) (n : ℕ) : Finset (Fin 8) := Finset.univ.filter fun p => n ≤ p.val ∧ p.val < len ch
/-- The hops before number `n`. -/
def past (n : ℕ) : Finset (Fin 8) := Finset.univ.filter fun p => p.val < n
/-- The neighbour's slots a direction's hops land in. -/
def ground (c : Dev nD) (d : Bool) : sProp 𝕄 :=
  bigSep Finset.univ fun s : Fin 2 => bigSep (ahead (d, s) 0) fun p => slotE (F := F) (nb d c) d p.succ s

instance lent_storable (c : Dev nD) (ch p) : BI.Storable (upEmb : UEmb _ 𝕄) (lent m c ch p) := by unfold lent; infer_instance
instance brought_storable (c : Dev nD) (ch p) : BI.Storable (upEmb : UEmb _ 𝕄) (brought m c ch p) := by unfold brought; infer_instance
instance ground_storable (c : Dev nD) (d) : BI.Storable (upEmb : UEmb _ 𝕄) (ground (F := F) c d) := by unfold ground; infer_instance

def duty : Cx → ℕ → Finset Bool
  | none, r => if r = 0 then Finset.univ else ∅
  | some (.inl ch), r => if r < len ch then {false} else ∅
  | some (.inr x), r => if r = 0 ∧ x.2.val < len x.1 then {false} else ∅
def raise : Cx → ℕ
  | none => 1
  | some _ => N
def hand (c : Dev nD) : Cx → ℕ → Bool → sProp 𝕄
  | none, _, d => ground c d
  | some (.inl ch), r, _ => if h : r < 8 then lent m c ch ⟨r, h⟩ else iprop(emp)
  | some (.inr x), _, _ => brought m c x.1 x.2

instance hand_storable (c : Dev nD) (k r d) : BI.Storable (upEmb : UEmb _ 𝕄) (hand m c k r d) := by
  rcases k with _ | ch | x
  · exact ground_storable c d
  · show BI.Storable upEmb (if h : r < 8 then lent m c ch ⟨r, h⟩ else iprop(emp))
    split <;> infer_instance
  · exact brought_storable m c x.1 x.2

/-- The table: round `r` of a barrier cell is raised once from each neighbour, who hands over the slots the device's
    hops that way land in; round `r` of a chain's source cell by its hop `r`; a hop's arrival cell once. -/
def Rd : Rounds.Schedule (GSem nD τ sig) Bool 𝕄 where
  duties g r := match what g.2 with
    | some k => if g.1.2 = .tc then duty k r else ∅
    | none => ∅
  unitless _ := False
  amount g _ _ := match what g.2 with
    | some k => raise k
    | none => 1
  payload g r d := match what g.2 with
    | some k => hand m g.1.1 k r d
    | none => iprop(emp)
  amount_pos g _ _ _ := by
    rcases what g.2 with _ | _ | k
    · exact Nat.one_pos
    · exact Nat.one_pos
    · exact N_pos

instance Rd_storable (g : GSem nD τ sig) (r : ℕ) (d : Bool) : BI.Storable (upEmb : UEmb _ 𝕄) ((Rd m).payload g r d) := by
  show BI.Storable upEmb (match what g.2 with | some k => hand m g.1.1 k r d | none => iprop(emp))
  split <;> infer_instance

theorem duties_cell (c : Dev nD) (k : Cx) (r : ℕ) : (Rd m).duties (cell c k) r = duty k r := by
  dsimp only [Rd]; rw [what_csem]; exact if_pos rfl
theorem amount_cell (c : Dev nD) (k : Cx) (r : ℕ) (d : Bool) : (Rd m).amount (cell c k) r d = raise k := by
  dsimp only [Rd]; rw [what_csem]
theorem payload_cell (c : Dev nD) (k : Cx) (r : ℕ) (d : Bool) : (Rd m).payload (cell c k) r d = hand m c k r d := by
  dsimp only [Rd]; rw [what_csem]
theorem expect_cell (c : Dev nD) (k : Cx) (r : ℕ) : (Rd m).expect (cell c k) r = (duty k r).card * raise k := by
  unfold Schedule.expect Schedule.amountOf
  rw [duties_cell, Finset.sum_congr rfl fun d _ => amount_cell m c k r d, Finset.sum_const, smul_eq_mul]
theorem rest_cell (c : Dev nD) (k : Cx) (r : ℕ) :
    bigSep ((Rd m).duties (cell c k) r \ ∅) (fun d => (Rd m).payload (cell c k) r d) = bigSep (duty k r) (hand m c k r) := by
  rw [Finset.sdiff_empty, duties_cell]
  exact bigSep_congr fun d _ => payload_cell m c k r d

theorem duty_bar : duty none 0 = Finset.univ := rfl
theorem duty_snd {ch : Ch} {r : ℕ} (h : r < len ch) : duty (some (.inl ch)) r = {false} := if_pos h
theorem duty_rcv {ch : Ch} {p : Fin 8} (h : p.val < len ch) : duty (some (.inr (ch, p))) 0 = {false} := if_pos ⟨rfl, h⟩
theorem duty_bar_end (r : ℕ) (h : 1 ≤ r) : duty none r = ∅ := if_neg (by omega)
theorem duty_snd_end {ch : Ch} (r : ℕ) (h : len ch ≤ r) : duty (some (.inl ch)) r = ∅ := if_neg (by omega)
theorem duty_rcv_end (x : Ch × Fin 8) (r : ℕ) (h : 1 ≤ r) : duty (some (.inr x)) r = ∅ := if_neg (by omega)
theorem duty_rcv_unused {x : Ch × Fin 8} (h : len x.1 ≤ x.2.val) (r : ℕ) : duty (some (.inr x)) r = ∅ := if_neg (by omega)
theorem hand_snd (c : Dev nD) (ch : Ch) (p : Fin 8) (d : Bool) : hand m c (some (.inl ch)) p.val d = lent m c ch p := dif_pos p.isLt

/-! ## Hops ahead and past -/

theorem ahead_step {ch : Ch} {p : Fin 8} (h : p.val < len ch) : ahead ch p.val = insert p (ahead ch (p.val + 1)) := by
  ext q
  simp only [ahead, Finset.mem_insert, Finset.mem_filter, Finset.mem_univ, true_and, Fin.ext_iff]
  omega
theorem ahead_not_mem (ch : Ch) (p : Fin 8) : p ∉ ahead ch (p.val + 1) := by
  simp only [ahead, Finset.mem_filter, Finset.mem_univ, true_and]; omega
theorem ahead_end {ch : Ch} {n : ℕ} (h : len ch ≤ n) : ahead ch n = ∅ := by
  ext q
  simp only [ahead, Finset.mem_filter, Finset.mem_univ, true_and, Finset.notMem_empty, iff_false]; omega
theorem past_step (p : Fin 8) : past (p.val + 1) = insert p (past p.val) := by
  ext q
  simp only [past, Finset.mem_insert, Finset.mem_filter, Finset.mem_univ, true_and, Fin.ext_iff]
  omega
theorem past_not_mem (p : Fin 8) : p ∉ past p.val := by
  simp only [past, Finset.mem_filter, Finset.mem_univ, true_and]; omega
theorem past_zero : past 0 = ∅ := by decide
theorem ahead_eq_past (ch : Ch) : ahead ch 0 = past (len ch) := by revert ch; decide

/-! ## What is owed -/

/-- What a device owes its neighbours when chain `ch`'s hops from number `n ch` on are still to go out. -/
def owed (c : Dev nD) (n : Ch → ℕ) : CellTallies nD τ sig Unit :=
  ∑ ch : Ch, ∑ p ∈ ahead ch (n ch), tallyAt (rcvC (nb ch.1 c) ch p) () N
/-- At launch: every hop, and a unit to each neighbour's barrier. -/
def O₀ (c : Dev nD) : CellTallies nD τ sig Unit :=
  (owed c (fun _ => 0) + tallyAt (barC (nb false c)) () 1) + tallyAt (barC (nb true c)) () 1

theorem owed_step (c : Dev nD) (n : Ch → ℕ) (ch : Ch) (p : Fin 8) (hn : n ch = p.val) (h : p.val < len ch) :
    owed c n = owed c (Function.update n ch (p.val + 1)) + tallyAt (rcvC (nb ch.1 c) ch p) () N := by
  unfold owed
  rw [← Finset.add_sum_erase _ _ (Finset.mem_univ ch), ← Finset.add_sum_erase Finset.univ (fun ch' => ∑ p ∈ ahead ch' (Function.update n ch (p.val + 1) ch'), _) (Finset.mem_univ ch)]
  rw [hn, ahead_step h, Finset.sum_insert (ahead_not_mem ch p), Function.update_self,
    Finset.sum_congr (s₁ := Finset.univ.erase ch) (f := fun ch' => ∑ p ∈ ahead ch' (n ch'), tallyAt (rcvC (nb ch'.1 c) ch' p) () N)
      (g := fun ch' => ∑ p ∈ ahead ch' (Function.update n ch (p.val + 1) ch'), tallyAt (rcvC (nb ch'.1 c) ch' p) () N) rfl
      fun ch' h' => by rw [Function.update_of_ne (Finset.ne_of_mem_erase h')]]
  rw [add_assoc, add_comm]
theorem owed_none (c : Dev nD) (n : Ch → ℕ) (h : ∀ ch, len ch ≤ n ch) : owed c n = 0 := by
  unfold owed
  exact Finset.sum_eq_zero fun ch _ => by rw [ahead_end (h ch), Finset.sum_empty]
theorem owed_congr (c : Dev nD) (n n' : Ch → ℕ) (h : ∀ ch, ahead ch (n ch) = ahead ch (n' ch)) : owed c n = owed c n' := by
  unfold owed
  exact Finset.sum_congr rfl fun ch _ => by rw [h ch]

theorem tally_pos {g g' : GSem nD τ sig} {u : Unit} {k : ℕ} (h : 0 < tallyAt g' () k g u) : g = g' := by
  rw [tallyAt_apply] at h
  by_contra hn
  rw [if_neg (fun h' => hn h'.1)] at h
  exact Nat.lt_irrefl 0 h
theorem sum_pos {ι : Type} {s : Finset ι} {f : ι → CellTallies nD τ sig Unit} {g : GSem nD τ sig} {u : Unit}
    (h : 0 < (∑ i ∈ s, f i) g u) : ∃ i ∈ s, 0 < f i g u := by
  rw [Finset.sum_apply, Finsupp.finsetSum_apply] at h
  by_contra hn
  push Not at hn
  exact absurd (Finset.sum_eq_zero fun i hi => Nat.le_zero.mp (hn i hi)) (by omega)
theorem owed_pos {c : Dev nD} {n : Ch → ℕ} {g : GSem nD τ sig} {u : Unit} (h : 0 < owed c n g u) :
    ∃ (ch : Ch) (p : Fin 8), n ch ≤ p.val ∧ p.val < len ch ∧ g = rcvC (nb ch.1 c) ch p := by
  obtain ⟨ch, -, h⟩ := sum_pos h
  obtain ⟨p, hp, h⟩ := sum_pos h
  obtain ⟨-, h1, h2⟩ := Finset.mem_filter.mp hp
  exact ⟨ch, p, h1, h2, tally_pos h⟩
theorem O₀_pos {c : Dev nD} {g : GSem nD τ sig} {u : Unit} (h : 0 < O₀ c g u) :
    (∃ (c' : Dev nD) (ch : Ch) (p : Fin 8), g = rcvC c' ch p) ∨ ∃ c', g = barC c' := by
  unfold O₀ at h
  rw [Pi.add_apply, Finsupp.add_apply, Pi.add_apply, Finsupp.add_apply] at h
  rcases Nat.eq_zero_or_pos (owed c (fun _ => 0) g u) with h0 | h0
  · rcases Nat.eq_zero_or_pos (tallyAt (barC (nb false c)) () 1 g u) with h1 | h1
    · exact .inr ⟨_, tally_pos (u := u) (by omega : 0 < tallyAt (barC (nb true c)) () 1 g u)⟩
    · exact .inr ⟨_, tally_pos h1⟩
  · obtain ⟨ch, p, -, -, e⟩ := owed_pos h0
    exact .inl ⟨_, ch, p, e⟩

/-! ## Ranks -/

def L (g : GSem nD τ sig) : Finset Unit := if g.1.2 = .tc then {()} else ∅
/-- Arrivals rank by hop, above the barrier, above everything else. -/
def rank : Cx → ℕ
  | none => 1
  | some (.inl _) => 0
  | some (.inr x) => x.2.val + 2
def lv (g : GSem nD τ sig) (_ : Unit) : ℕ := match what g.2 with
  | some k => rank k
  | none => 0
theorem lv_cell (c : Dev nD) (k : Cx) (u : Unit) : lv (cell c k) u = rank k := by unfold lv; rw [what_csem]
theorem L_of_ne (g : GSem nD τ sig) (h : g.1.2 ≠ .tc) : L g = ∅ := if_neg h
theorem L_tc (c : Dev nD) (sm : SemLoc sig) : L ((c : Thread nD τ), sm) = {()} := if_pos rfl

/-- A device may wait on a cell when everything it owes ranks above it. -/
theorem mayWait_of (c : Dev nD) (sm : SemLoc sig) (b : ℕ) (O : CellTallies nD τ sig Unit) (hs : lv ((c : Thread nD τ), sm) () ≤ b)
    (hO : ∀ g u, 0 < O g u → ∃ (c' : Dev nD) (k : Cx), g = cell c' k ∧ b < rank k) :
    (levAts L lv : sProp 𝕄) ⊢ MayWait (c : Thread nD τ) sm () O :=
  MayOwe.of_cut (L := L) (lev := lv) b (fun x hx => by rw [Finset.mem_singleton.mp hx, L_tc]; exact Finset.mem_singleton_self _)
    (fun g u hg => by obtain ⟨c', k, rfl, -⟩ := hO g u hg; exact Finset.mem_singleton_self _)
    (fun x hx => by rw [Finset.mem_singleton.mp hx]; exact hs)
    (fun g u hg => by obtain ⟨c', k, rfl, h⟩ := hO g u hg; rw [lv_cell]; exact h)

theorem mayWait_rcv (c : Dev nD) (ch : Ch) (p : Fin 8) (n : Ch → ℕ)
    (h : ∀ ch' (p' : Fin 8), n ch' ≤ p'.val → p'.val < len ch' → p < p') :
    (levAts L lv : sProp 𝕄) ⊢ MayWait (c : Thread nD τ) (csem (some (.inr (ch, p)))) () (owed c n) :=
  mayWait_of c _ (p.val + 2) _ (by rw [lv_cell]; exact le_rfl) fun g u hg => by
    obtain ⟨ch', p', h1, h2, rfl⟩ := owed_pos hg
    exact ⟨_, _, rfl, Nat.add_lt_add_right (h ch' p' h1 h2) 2⟩
theorem mayWait_snd (c : Dev nD) (ch : Ch) (n : Ch → ℕ) :
    (levAts L lv : sProp 𝕄) ⊢ MayWait (c : Thread nD τ) (csem (some (.inl ch))) () (owed c n) :=
  mayWait_of c _ 0 _ (by rw [lv_cell]; exact le_rfl) fun g u hg => by
    obtain ⟨ch', p', h1, h2, rfl⟩ := owed_pos hg
    exact ⟨_, _, rfl, Nat.succ_pos _⟩
theorem mayWait_bar (c : Dev nD) (n : Ch → ℕ) :
    (levAts L lv : sProp 𝕄) ⊢ MayWait (c : Thread nD τ) (csem none) () (owed c n) :=
  mayWait_of c _ 1 _ (by rw [lv_cell]; exact le_rfl) fun g u hg => by
    obtain ⟨ch', p', h1, h2, rfl⟩ := owed_pos hg
    exact ⟨_, _, rfl, Nat.succ_lt_succ (Nat.succ_pos _)⟩
/-- A staging transfer's cell is none of these: it may be waited on whatever the device owes here. -/
theorem mayWait_stage (c : Dev nD) (q : DmaSem sig) (hq : what (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by unfold lv; rw [hq]) fun g u hg => ?_
    rcases O₀_pos hg with ⟨c', ch, p, rfl⟩ | ⟨c', rfl⟩
    · exact ⟨_, _, rfl, Nat.succ_pos _⟩
    · exact ⟨_, _, rfl, Nat.one_pos⟩
  · rw [MayWait_zero]; iintro -; iempintro

end Cert.Fan

end
-- ==== Proof.Moves.lean ====
/- One rule per kind of move: a hop goes out, a hop arrives, a source is free again, a tile is computed. -/
module

public import proofs.«01_k».proof.Proof.Protocol

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none
/-- Device `c` running `P`, then `Q`. -/
abbrev runs (c : Dev nD) (P : Prog (TpuEff nD τ sig (Elt F) Λ₀ .tc) PUnit) (Q : PUnit → sProp 𝕄) : sProp 𝕄 :=
  wp frame (wpE (defs₀ (F := F)) 𝒱₀ (c : Thread nD τ) none) Set.univ P Q

/-- Every cell's invariant, under the names `K`, and that every cell has begun. -/
def cells (K : Dev nD × Cx → ℕ) : sProp 𝕄 :=
  iprop((bigSep Finset.univ fun x : Dev nD × Cx => cellInv ER (Rd m) (K x) (cell x.1 x.2))
    ∗ bigSep Finset.univ fun x : Dev nD × Cx => reached ER (cell x.1 x.2) 0)
instance cells_persistent (K : Dev nD × Cx → ℕ) : BI.Persistent (cells m K) := by unfold cells; infer_instance
/-- That, and the ranks. -/
def know (K : Dev nD × Cx → ℕ) : sProp 𝕄 := iprop(cells m K ∗ levAts L lv)
instance know_persistent (K : Dev nD × Cx → ℕ) : BI.Persistent (know m K) := by unfold know; infer_instance

/-- One of many. -/
theorem take_one {I : Type} [DecidableEq I] {s : Finset I} (Φ : I → sProp 𝕄) {i : I} (hi : i ∈ s) : bigSep s Φ ⊢ Φ i := bigSep_elim hi
theorem know_inv (K : Dev nD × Cx → ℕ) (c : Dev nD) (k : Cx) : know m K ⊢ cellInv ER (Rd m) (K (c, k)) (cell c k) := by
  unfold know cells
  iintro ⟨⟨H, -⟩, -⟩
  iapply (take_one (F := F) (fun x : Dev nD × Cx => cellInv ER (Rd m) (K x) (cell x.1 x.2)) (Finset.mem_univ (c, k)))
  iexact H
theorem know_begun (K : Dev nD × Cx → ℕ) (c : Dev nD) (k : Cx) : know m K ⊢ (reached ER (cell c k) 0 : sProp 𝕄) := by
  unfold know cells
  iintro ⟨⟨-, H⟩, -⟩
  iapply (take_one (F := F) (fun x : Dev nD × Cx => (reached ER (cell x.1 x.2) 0 : sProp 𝕄)) (Finset.mem_univ (c, k)))
  iexact H
theorem know_rank (K : Dev nD × Cx → ℕ) : know m K ⊢ (levAts L lv : sProp 𝕄) := by
  unfold know
  iintro ⟨-, H⟩
  iexact H

/-- Device `c` owing `O`. -/
def owing (c : Dev nD) (O : CellTallies nD τ sig Unit) : sProp 𝕄 := iprop(∃ W, owes (c : Thread nD τ) O W)

/-- What sending hop `p` of a chain takes besides the source: the two raises it pays, and where it lands. -/
def fare (c : Dev nD) (ch : Ch) (p : Fin 8) : sProp 𝕄 :=
  iprop(dutyTok ER (sndC c ch) p.val false ∗ dutyTok ER (rcvC (nb ch.1 c) ch p) 0 false ∗ slotE (nb ch.1 c) ch.1 p.succ ch.2)

theorem hop_space : ∀ (d : Bool) (p : Fin 8) (s : Fin 2), (dstM d p s).view.ref.isScScratch = false
  | false, _, _ => rfl
  | true, _, _ => rfl
theorem hop_typed (c : Dev nD) (ch : Ch) (p : Fin 8) :
    DmaTarget.Typed (nD := nD) (τ := τ) (p := (c : Thread nD τ).2) .vmem (.dma (rcvS ch.1 p ch.2))
      (.remote (nb ch.1 c : Thread nD τ) (dstM ch.1 p ch.2) (.dma (sndS ch.1 ch.2)) (hop_space _ _ _)) := ⟨⟨rfl, Or.inl rfl⟩, trivial⟩

/-- A hop goes out. -/
theorem hop_out (K : Dev nD × Cx → ℕ) (c : Dev nD) (ch : Ch) (p : Fin 8) (h : p.val < len ch) (n : Ch → ℕ) (hn : n ch = p.val) (Q : PUnit → sProp 𝕄) :
    iprop(know m K ∗ fare c ch p ∗ lent m c ch p ∗ reached ER (sndC c ch) p.val ∗ owing c (owed c n))
      ⊢ iprop(((cred (tallyAt (sndC c ch) () N) ∗ owing c (owed c (Function.update n ch (p.val + 1)))) -∗ Q ⟨⟩)
          -∗ runs c (send c ch.1 p ch.2) Q) := by
  unfold fare slotE owing
  iintro ⟨#Hk, ⟨Hd1, Hd2, ⟨%fd, Hdst⟩⟩, Hsrc, #Hr, ⟨%W, HO⟩⟩ HQ
  unfold send Prog.lift
  have key := Rounds.wp_send_pointsTo 𝒱₀ ER (Rd m) (c : Thread nD τ) none (defs := defs₀ (F := F)) (Γ := .empty) (Q := Q) (k := .ret)
    (κ₁ := K (c, some (.inl ch))) (κ₂ := K (nb ch.1 c, some (.inr (ch, p))))
    (src := srcM ch.1 p ch.2) (dst := dstM ch.1 p ch.2) (sS := .dma (sndS ch.1 ch.2)) (sem := .dma (rcvS ch.1 p ch.2))
    (c' := (nb ch.1 c : Thread nD τ)) (hsrc := slotM_words _ _ ch.2) (hdst := slotM_words ch.1 _ ch.2) (hsc := hop_space _ _ _) (hsem := hop_typed c ch p)
    (r₁ := p.val) (r₂ := 0) (d₁ := false) (d₂ := false) (q := lentQ ch.1 p) (fs := slotAt m c (srcBuf ch.1 p) p.castSucc ch.2) (fd := fd)
    (by rw [show (((c : Thread nD τ), SemLoc.dma (sndS ch.1 ch.2)) : GSem nD τ sig) = sndC c ch from rfl, duties_cell, duty_snd h]; exact Finset.mem_singleton_self _)
    (by rw [show (((nb ch.1 c : Dev nD) : Thread nD τ), SemLoc.dma (rcvS ch.1 p ch.2)) = rcvC (nb ch.1 c) ch p from rfl, duties_cell, duty_rcv h]; exact Finset.mem_singleton_self _)
    () () N (credit_eq _ _ _) (amount_cell m c (some (.inl ch)) p.val false) (amount_cell m (nb ch.1 c) (some (.inr (ch, p))) 0 false)
    (owed c (Function.update n ch (p.val + 1))) (owed_step c n ch p hn h) (W := W) (Es := Set.univ)
    (by
      rw [show (((c : Thread nD τ), SemLoc.dma (sndS ch.1 ch.2)) : GSem nD τ sig) = sndC c ch from rfl, payload_cell, hand_snd]
      unfold lent slotC slotPt
      rw [show (srcM ch.1 p ch.2).view.set = (slotV (srcBuf ch.1 p) p.castSucc ch.2).set from slotM_set _ _ _]
      exact BI.Entails.refl _)
    (by
      rw [show (((nb ch.1 c : Dev nD) : Thread nD τ), SemLoc.dma (rcvS ch.1 p ch.2)) = rcvC (nb ch.1 c) ch p from rfl, payload_cell]
      rw [pointsTo_congr (hop_write m c ch.1 p ch.2 fd)]
      unfold hand brought slotC slotPt
      rw [show (dstM ch.1 p ch.2).view.set = (slotV ch.1 p.succ ch.2).set from slotM_set _ _ _]
      exact BI.Entails.refl _)
  iapply key $$ [Hd1 Hd2 Hdst Hsrc HO]
  · isplitr; · iapply (know_inv m K c (some (.inl ch))); iexact Hk
    isplitr; · iapply (know_inv m K (nb ch.1 c) (some (.inr (ch, p)))); iexact Hk
    isplitl [Hsrc]
    · unfold lent slotC slotPt
      rw [show (srcM ch.1 p ch.2).view.set = (slotV (srcBuf ch.1 p) p.castSucc ch.2).set from slotM_set _ _ _]
      iexact Hsrc
    isplitl [Hdst]
    · unfold slotPt
      rw [show (dstM ch.1 p ch.2).view.set = (slotV ch.1 p.succ ch.2).set from slotM_set _ _ _]
      iexact Hdst
    isplitl [HO]; · iexact HO
    isplitl [Hd1]; · iexact Hd1
    isplitr; · iexact Hr
    isplitl [Hd2]; · iexact Hd2
    iapply (know_begun m K (nb ch.1 c) (some (.inr (ch, p)))); iexact Hk
  iintro ⟨Hc, HO⟩
  rw [wp_ret]
  imodintro
  iapply HQ
  isplitl [Hc]; · iexact Hc
  iexists W; iexact HO

/-- A hop arrives, with the half it brings; its cell has served. -/
theorem hop_in (K : Dev nD × Cx → ℕ) (c : Dev nD) (ch : Ch) (p : Fin 8) (h : p.val < len ch) (n : Ch → ℕ)
    (hn : ∀ ch' (p' : Fin 8), n ch' ≤ p'.val → p'.val < len ch' → p < p') (Q : PUnit → sProp 𝕄) :
    iprop(know m K ∗ (atPos ER (rcvC c ch p) 0 ∅ 0 ∗ cred (tallyAt (rcvC c ch p) () N)) ∗ owing c (owed c n))
      ⊢ iprop(((semVal (rcvC c ch p) 0 ∗ brought m c ch p ∗ owing c (owed c n)) -∗ Q ⟨⟩)
          -∗ runs c (waitArrive ch.1 p ch.2) Q) := by
  unfold owing
  iintro ⟨#Hk, ⟨Hat, Hc⟩, ⟨%W, HO⟩⟩ HQ
  unfold waitArrive Prog.lift
  have key := Rounds.wp_wait_rest_token 𝒱₀ ER (Rd m) (c : Thread nD τ) none (defs := defs₀ (F := F)) (Γ := .empty) (Q := Q) (k := .ret)
      (κ := K (c, some (.inr (ch, p)))) (sm := csem (some (.inr (ch, p)))) (k' := N)
      (w := .waitDma2 (rcvS ch.1 p ch.2) (srcM ch.1 p ch.2) (dstM ch.1 p ch.2) (slotM_words _ _ ch.2) (slotM_words ch.1 _ ch.2))
      (fun K' => (wpE_waitDma2_eq 𝒱₀ (c : Thread nD τ) none Set.univ K').trans (by rw [show (dstM ch.1 p ch.2).view.dmaCredit = N from credit_eq _ _ _]; rfl))
      (Set.mem_univ _) () (O := owed c n) (W := W) (R := 0) (m := 0) (T := ∅)
      (by rw [Nat.zero_add, expect_cell, duty_rcv h]; exact (Nat.one_mul _).symm)
  iapply key $$ [Hat Hc HO]
  · isplitr; · iapply (know_inv m K c (some (.inr (ch, p)))); iexact Hk
    isplitl [Hc]; · iexact Hc
    isplitl [HO]; · iexact HO
    isplitr; · iapply ((know_rank m K).trans (mayWait_rcv c ch p n hn)); iexact Hk
    iexact Hat
  iintro ⟨HO, Hat, -, Hpay⟩
  ihave Hb := (Entails.of_eq ((rest_cell m c (some (.inr (ch, p))) 0).trans (by rw [duty_rcv h, bigSep_singleton]; rfl :
    _ = brought m c ch p))) $$ Hpay
  imod (Rounds.cell_close ER (Rd m) (Set.mem_univ (K (c, some (.inr (ch, p))))) (fun h => h) (R := 0 + 1)
    (fun r hr => (duties_cell m c (some (.inr (ch, p))) r).trans (duty_rcv_end _ r hr))) $$ [Hat] with Hz
  · isplitr; · iapply (know_inv m K c (some (.inr (ch, p)))); iexact Hk
    iexact Hat
  rw [wp_ret]
  imodintro
  iapply HQ
  isplitl [Hz]; · iexact Hz
  isplitl [Hb]; · iexact Hb
  iexists _; iexact HO

/-- A hop's source is free again, and back. -/
theorem hop_free (K : Dev nD × Cx → ℕ) (c : Dev nD) (ch : Ch) (p : Fin 8) (h : p.val < len ch) (n : Ch → ℕ) (Q : PUnit → sProp 𝕄) :
    iprop(know m K ∗ (atPos ER (sndC c ch) p.val ∅ 0 ∗ cred (tallyAt (sndC c ch) () N)) ∗ owing c (owed c n))
      ⊢ iprop(((atPos ER (sndC c ch) (p.val + 1) ∅ 0 ∗ reached ER (sndC c ch) (p.val + 1) ∗ lent m c ch p ∗ owing c (owed c n)) -∗ Q ⟨⟩)
          -∗ runs c (waitLeave ch.1 p ch.2) Q) := by
  unfold owing
  iintro ⟨#Hk, ⟨Hat, Hc⟩, ⟨%W, HO⟩⟩ HQ
  unfold waitLeave Prog.lift
  have key := Rounds.wp_wait_rest_token 𝒱₀ ER (Rd m) (c : Thread nD τ) none (defs := defs₀ (F := F)) (Γ := .empty) (Q := Q) (k := .ret)
      (κ := K (c, some (.inl ch))) (sm := csem (some (.inl ch))) (k' := N)
      (w := .waitDma2 (sndS ch.1 ch.2) (dstM ch.1 p ch.2) (srcM ch.1 p ch.2) (slotM_words ch.1 _ ch.2) (slotM_words _ _ ch.2))
      (fun K' => (wpE_waitDma2_eq 𝒱₀ (c : Thread nD τ) none Set.univ K').trans (by rw [show (srcM ch.1 p ch.2).view.dmaCredit = N from credit_eq _ _ _]; rfl))
      (Set.mem_univ _) () (O := owed c n) (W := W) (R := p.val) (m := 0) (T := ∅)
      (by rw [Nat.zero_add, expect_cell, duty_snd h]; exact (Nat.one_mul _).symm)
  iapply key $$ [Hat Hc HO]
  · isplitr; · iapply (know_inv m K c (some (.inl ch))); iexact Hk
    isplitl [Hc]; · iexact Hc
    isplitl [HO]; · iexact HO
    isplitr; · iapply ((know_rank m K).trans (mayWait_snd c ch n)); iexact Hk
    iexact Hat
  iintro ⟨HO, Hat, #Hr, Hpay⟩
  ihave Hb := (Entails.of_eq ((rest_cell m c (some (.inl ch)) p.val).trans (by rw [duty_snd h, bigSep_singleton, hand_snd] :
    _ = lent m c ch p))) $$ Hpay
  rw [wp_ret]
  imodintro
  iapply HQ
  isplitl [Hat]; · iexact Hat
  isplitr; · iexact Hr
  isplitl [Hb]; · iexact Hb
  iexists _; iexact HO

/-- A chain's source cell, every round served, is closed. -/
theorem close_snd (K : Dev nD × Cx → ℕ) (c : Dev nD) (ch : Ch) :
    iprop(know m K ∗ atPos ER (sndC c ch) (len ch) ∅ 0) ⊢ iprop(|={Set.univ}=> semVal (sndC c ch) 0) := by
  iintro ⟨#Hk, Hat⟩
  iapply (Rounds.cell_close ER (Rd m) (Set.mem_univ (K (c, some (.inl ch)))) (fun h => h) (R := len ch)
    (fun r hr => (duties_cell m c (some (.inl ch)) r).trans (duty_snd_end r hr)))
  isplitr; · iapply (know_inv m K c (some (.inl ch))); iexact Hk
  iexact Hat
/-- A hop that a chain does not have: its arrival cell is closed as it began. -/
theorem close_unused (K : Dev nD × Cx → ℕ) (c : Dev nD) (ch : Ch) (p : Fin 8) (h : len ch ≤ p.val) :
    iprop(know m K ∗ atPos ER (rcvC c ch p) 0 ∅ 0) ⊢ iprop(|={Set.univ}=> semVal (rcvC c ch p) 0) := by
  iintro ⟨#Hk, Hat⟩
  iapply (Rounds.cell_close ER (Rd m) (Set.mem_univ (K (c, some (.inr (ch, p))))) (fun h => h) (R := 0)
    (fun r _ => (duties_cell m c (some (.inr (ch, p))) r).trans (duty_rcv_unused h r)))
  isplitr; · iapply (know_inv m K c (some (.inr (ch, p)))); iexact Hk
  iexact Hat

end Cert.Fan

end
-- ==== Proof.Tile.lean ====
/- The result buffer, tile by tile.

   `outAt` is what a device's result must be: at the rows of device `o`'s half `s`, the tile of that half against the
   device's own columns. A tile step adds one half's rows to those already right (`tile_step`). -/
module

public import proofs.«01_k».proof.Proof.Moves

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The first row and column of device `o`'s half `s` in a result. -/
abbrev ooff (o : Dev nD) (s : Fin 2) : Fin 2 → Nat := ![256 * o.val + 128 * s.val, 0]
theorem ooff_inb : ∀ (o : Dev nD) (s : Fin 2), ∀ a, ooff o s a + S128x128.size a ≤ S4096x128.size a := by decide +kernel
/-- Those rows. -/
abbrev orect (o : Dev nD) (s : Fin 2) : Rect S4096x128 := Rect.unit (s := S4096x128) (ooff o s) S128x128.size (ooff_inb o s)

/-- The program's row numbers are the origins' rows. -/
theorem off_own0 : ∀ c : Dev nD, k0_off1 c 0#32 = ooff (org false c 0) 0 := by decide +kernel
theorem off_own1 : ∀ c : Dev nD, k0_off1 c 128#32 = ooff (org false c 0) 1 := by decide +kernel
theorem off_hop : ∀ (d : Bool) (c : Dev nD) (p : Fin 8) (s : Fin 2), offs d c (p.val + 1) s = ooff (org d c p.succ) s := by decide +kernel

theorem row_lt (i : S4096x128.Idx) : (i 0).val < 4096 := (i 0).isLt
/-- Whose rows a row of a result belongs to, which half, and the place in the tile. -/
def ownerOf (i : S4096x128.Idx) : Dev nD := ⟨(i 0).val / 256, by have := row_lt i; show _ < 16; omega⟩
def halfOf (i : S4096x128.Idx) : Fin 2 := ⟨(i 0).val / 128 % 2, Nat.mod_lt _ (by decide)⟩
def placeOf (i : S4096x128.Idx) : S128x128.Idx := Fin.cons ⟨(i 0).val % 128, Nat.mod_lt _ (by decide)⟩ (Fin.cons (i 1) fun a => a.elim0)

/-- The columns as the staging step stores them. -/
def cols (c : Dev nD) : FVec F S4096x128 .fp8e4m3 := k0_pay4 (win m c)
/-- A tile: half `s` of device `o`'s rows against device `c`'s columns, scaled by `sc` and cut off at zero. -/
def tile (sc : F .f32) (c o : Dev nD) (s : Fin 2) : FVec F S128x128 .f32 := k0_pay8 sc (slab m o s) (cols m c)
/-- What device `c`'s result must be. -/
def outAt (sc : F .f32) (c : Dev nD) : (cc0_stg4_0 : Ref sig .tc).ty.Contents (Elt F) :=
  fun i => tile m sc c (ownerOf i) (halfOf i) (placeOf i)

theorem orect_place (o : Dev nD) (s : Fin 2) (x : S128x128.Idx) :
    ownerOf ((orect o s).emb x) = o ∧ halfOf ((orect o s).emb x) = s ∧ placeOf ((orect o s).emb x) = x := by
  have e0 : (((orect o s).emb x) 0).val = 256 * o.val + 128 * s.val + (x 0).val := by
    rw [Rect.emb_apply]; show 256 * o.val + 128 * s.val + 1 * (x 0).val = _; omega
  have e1 : (((orect o s).emb x) 1).val = (x 1).val := by
    rw [Rect.emb_apply]; show 0 + 1 * (x 1).val = _; omega
  have hx : (x 0).val < 128 := (x 0).isLt
  have hs := s.isLt
  refine ⟨Fin.ext ?_, Fin.ext ?_, ?_⟩
  · show (((orect o s).emb x) 0).val / 256 = o.val; rw [e0]; omega
  · show (((orect o s).emb x) 0).val / 128 % 2 = s.val; rw [e0]; omega
  · funext a
    refine Fin.ext ?_
    fin_cases a
    · show (((orect o s).emb x) 0).val % 128 = (x 0).val; rw [e0]; omega
    · exact e1

/-- A tile's store: at the tile's rows the result is right, elsewhere it is what it was. -/
theorem tile_write (sc : F .f32) (c o : Dev nD) (s : Fin 2) (f : (cc0_stg4_0 : Ref sig .tc).ty.Contents (Elt F)) (i : S4096x128.Idx) :
    (oM.access (orect o s)).write (Elt F) f (tile m sc c o s) Finset.univ i
      = if i ∈ (orect o s).set then outAt m sc c i else f i := by
  by_cases h : i ∈ (orect o s).set
  · rw [if_pos h]
    obtain ⟨x, rfl⟩ := (orect o s).exists_idx_of_mem h
    refine (View.write_emb_of_mem (v := oM.access (orect o s)) f (tile m sc c o s) (Finset.mem_univ x)).trans ?_
    unfold outAt
    obtain ⟨h1, h2, h3⟩ := orect_place o s x
    rw [show (orect o s).idx x = (orect o s).emb x from rfl, h1, h2, h3]
    rfl
  · rw [if_neg h]
    exact View.write_of_not_mem _ _ _ (by rw [View.setOn_univ, View.set_slice_whole]; exact h)

/-- The result buffer, right at the rows of the halves in `T`. -/
def outHeld (sc : F .f32) (c : Dev nD) (T : Set (Dev nD × Fin 2)) : sProp 𝕄 :=
  iprop(∃ f : Buf (Elt F) ((c : Thread nD τ).loc cc0_stg4_0), ⌜∀ b ∈ T, ∀ i ∈ (orect b.1 b.2).set, f i = outAt m sc c i⌝ ∗ ((c : Thread nD τ).loc cc0_stg4_0) ↦{fullShare} f)

/-- The columns, stored. -/
def colsHeld (c : Dev nD) : sProp 𝕄 := ((c : Thread nD τ).loc cc0_scratch2) ↦{fullShare} (cols m c)

theorem out_weaken (sc : F .f32) (c : Dev nD) {T T' : Set (Dev nD × Fin 2)} (h : T' ⊆ T) : outHeld m sc c T ⊢ outHeld m sc c T' := by
  unfold outHeld
  iintro ⟨%f, %hf, H⟩
  iexists f
  isplitr
  · ipureintro; exact fun b hb => hf b (h hb)
  iexact H

/-- The origin of a matrix. -/
theorem zz : (![0, 0] : Fin 2 → Nat) = fun _ => 0 := by decide

/-- A tile step: with a slot's half, at whatever share, and the columns, one more half's rows of the result are right. -/
theorem tile_step (sc : F .f32) (c : Dev nD) (d : Bool) (j : Fin 9) (s : Fin 2) (q : PosShare TreeShare) (T : Set (Dev nD × Fin 2))
    (off : Fin 2 → Nat) (hoff : ∀ a, off a + S128x128.size a ≤ S4096x128.size a) (he : off = ooff (org d c j) s) (Q : PUnit → sProp 𝕄) :
    iprop(slotC m c d j s q ∗ colsHeld m c ∗ outHeld m sc c T)
      ⊢ iprop(((slotC m c d j s q ∗ colsHeld m c ∗ outHeld m sc c (insert (org d c j, s) T)) -∗ Q ⟨⟩)
          -∗ runs c (tileOf d j s sc off hoff) Q) := by
  subst he
  unfold tileOf slotC slotPt colsHeld outHeld
  simp only [Prog.lift, Prog.bind_op, Prog.bind_ret]
  iintro ⟨Hs, Hc, ⟨%f, %hf, Ho⟩⟩ HQ
  iapply (wp_load_rect 𝒱₀ (c : Thread nD τ) none Set.univ (defs := defs₀ (F := F)) (m := bufM d)
    (r := Rect.unit (s := S9x256x4096) ![j.val, 128 * s.val, 0] S1x128x4096.size (rect_inb j s)) (S := (slotV d j s).set) (q := q) (f := slotAt m c d j s) subset_rfl) $$ [Hs]
  · iexact Hs
  iintro Hs
  iapply (wp_load_rect 𝒱₀ (c : Thread nD τ) none Set.univ (defs := defs₀ (F := F)) (m := w8M)
    (r := Rect.unit (s := S4096x128) ![0, 0] S4096x128.size inb_S4096x128_S4096x128_0_0) (S := Finset.univ) (Finset.subset_univ _)) $$ Hc
  iintro Hc
  iapply (wp_load_rect 𝒱₀ (c : Thread nD τ) none Set.univ (defs := defs₀ (F := F)) (m := oM) (r := orect (org d c j) s)
    (S := Finset.univ) (Finset.subset_univ _)) $$ Ho
  iintro Ho
  iapply (wp_store 𝒱₀ (c : Thread nD τ) none Set.univ (defs := defs₀ (F := F)) (m := oM) (r := orect (org d c j) s)
    (S := Finset.univ) (Finset.subset_univ _)) $$ Ho
  iintro Ho
  rw [wp_ret]
  imodintro
  iapply HQ
  isplitl [Hs]; · iexact Hs
  isplitl [Hc]; · iexact Hc
  have e1 : ((bufM d).access (Rect.unit (s := S9x256x4096) ![j.val, 128 * s.val, 0] S1x128x4096.size (rect_inb j s))).read (Elt F) (slotAt m c d j s)
      = slab m (org d c j) s := slot_read m c d j s
  have e2 : (w8M.access (Rect.unit (s := S4096x128) ![0, 0] S4096x128.size inb_S4096x128_S4096x128_0_0)).read (Elt F) (cols m c) = cols m c :=
    Memref.readAt_unit_zero (Elt F) cc0_scratch2 zz _ _
  rw [e1, e2]
  iexists _
  isplitr
  rotate_left
  · iexact Ho
  · ipureintro
    intro b hb i hi
    refine (tile_write m sc c (org d c j) s f i).trans ?_
    split
    · rfl
    · rename_i hn
      rcases hb with rfl | hb
      · exact absurd hi hn
      · exact hf b hb i hi

end Cert.Fan

end
-- ==== Proof.Turns.lean ====
/- The turns.

   A chain's state is two numbers: the hop on its way out, and how many hops have come in. A turn raises both by one,
   and adds one half's rows to the result; the last turn of a chain raises only the second. -/
module

public import proofs.«01_k».proof.Proof.Tile

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Chain `ch` of device `c` with hop `j` on its way out: the later ones' fares, the earlier ones' sources. -/
def sending (c : Dev nD) (ch : Ch) (j : ℕ) : sProp 𝕄 :=
  iprop(bigSep (ahead ch (j + 1)) (fare (F := F) c ch) ∗ (atPos ER (sndC c ch) j ∅ 0 ∗ cred (tallyAt (sndC c ch) () N)) ∗ bigSep (past j) (lent m c ch))

/-- The right to wait for hop `p`. -/
def ticket (c : Dev nD) (ch : Ch) (p : Fin 8) : sProp 𝕄 := iprop(atPos ER (rcvC c ch p) 0 ∅ 0 ∗ cred (tallyAt (rcvC c ch p) () N))
/-- What stays after hop `p` came in: its cell, closed; the half of the slot that does not travel on, and the other too if
    this was the chain's last. -/
def kept (c : Dev nD) (ch : Ch) (p : Fin 8) : sProp 𝕄 :=
  iprop(semVal (rcvC c ch p) 0 ∗ slotC m c ch.1 p.succ ch.2 fullShare.right
    ∗ (if p.val + 1 < len ch then iprop(emp) else slotC m c ch.1 p.succ ch.2 fullShare.left))
/-- Chain `ch` of device `c` with `k` hops come in. -/
def receiving (c : Dev nD) (ch : Ch) (k : ℕ) : sProp 𝕄 := iprop(bigSep (ahead ch k) (ticket (F := F) c ch) ∗ bigSep (past k) (kept m c ch))

theorem slot_split (c : Dev nD) (d : Bool) (j : Fin 9) (s : Fin 2) :
    slotC m c d j s fullShare ⊢ iprop(slotC m c d j s fullShare.left ∗ slotC m c d j s fullShare.right) := by
  unfold slotC slotPt
  exact (pointsTo_share (PosShare.mem_left_op_right fullShare)).1
theorem slot_join (c : Dev nD) (d : Bool) (j : Fin 9) (s : Fin 2) :
    iprop(slotC m c d j s fullShare.left ∗ slotC m c d j s fullShare.right) ⊢ slotC m c d j s fullShare := by
  unfold slotC slotPt
  exact (pointsTo_share (PosShare.mem_left_op_right fullShare)).2
theorem lent_succ (c : Dev nD) (ch : Ch) (p : Fin 7) : lent m c ch p.succ = slotC m c ch.1 p.castSucc.succ ch.2 fullShare.left := by
  unfold lent lentQ srcBuf
  rw [if_neg (by rw [Fin.val_succ]; omega), if_neg (by rw [Fin.val_succ]; omega)]
  rfl

theorem ahead_take {ch : Ch} {p : Fin 8} (h : p.val < len ch) (Φ : Fin 8 → sProp 𝕄) :
    bigSep (ahead ch p.val) Φ = iprop(Φ p ∗ bigSep (ahead ch (p.val + 1)) Φ) := by
  rw [ahead_step h, bigSep_insert (ahead_not_mem ch p)]; rfl
theorem past_put (p : Fin 8) (Φ : Fin 8 → sProp 𝕄) : bigSep (past (p.val + 1)) Φ = iprop(Φ p ∗ bigSep (past p.val) Φ) := by
  rw [past_step p, bigSep_insert (past_not_mem p)]; rfl

/-- A turn of one chain. -/
theorem chain_turn (K : Dev nD × Cx → ℕ) (sc : F .f32) (c : Dev nD) (ch : Ch) (p : Fin 7) (h : p.val + 1 < len ch) (n : Ch → ℕ)
    (hn : n ch = p.val + 1) (hw : ∀ ch' (p' : Fin 8), n ch' ≤ p'.val → p'.val < len ch' → p.castSucc < p') (T : Set (Dev nD × Fin 2)) (Q : PUnit → sProp 𝕄) :
    iprop(know m K ∗ (sending m c ch p.val ∗ receiving m c ch p.val) ∗ owing c (owed c n) ∗ colsHeld m c ∗ outHeld m sc c T)
      ⊢ iprop((((sending m c ch (p.val + 1) ∗ receiving m c ch (p.val + 1)) ∗ owing c (owed c (Function.update n ch (p.val + 2))) ∗ colsHeld m c
            ∗ outHeld m sc c (insert (org ch.1 c p.castSucc.succ, ch.2) T)) -∗ Q ⟨⟩)
          -∗ runs c (turn c sc ch.1 p ch.2) Q) := by
  have hv : p.castSucc.val = p.val := rfl
  have hv' : p.succ.val = p.val + 1 := rfl
  have h0 : p.castSucc.val < len ch := by rw [hv]; omega
  unfold turn sending receiving
  have t1 : bigSep (ahead ch p.val) (ticket (F := F) c ch) = _ := ahead_take (p := p.castSucc) h0 _
  have t2 : bigSep (past (p.val + 1)) (kept m c ch) = _ := past_put p.castSucc _
  have t3 : bigSep (past (p.val + 1)) (lent m c ch) = _ := past_put p.castSucc _
  have t4 : bigSep (ahead ch (p.val + 1)) (fare (F := F) c ch) = _ := ahead_take (p := p.succ) (by rw [hv']; exact h) _
  rw [t1, t2, t3, t4]
  unfold runs
  rw [wp_bind]
  iintro ⟨#Hk, ⟨⟨⟨Hf, Hfs⟩, Hsnd, Hls⟩, ⟨Ht, Hts⟩, Hks⟩, HO, Hc, Ho⟩ HQ
  iapply (hop_in m K c ch p.castSucc h0 n hw _) $$ [Ht HO]
  · isplitr; · iexact Hk
    isplitl [Ht]; · unfold ticket; iexact Ht
    iexact HO
  iintro ⟨Hz, Hb, HO⟩
  rw [wp_bind]
  iapply (hop_free m K c ch p.castSucc h0 n _) $$ [Hsnd HO]
  · isplitr; · iexact Hk
    isplitl [Hsnd]; · iexact Hsnd
    iexact HO
  iintro ⟨Hat, #Hr, Hl, HO⟩
  unfold brought
  ihave Hb2 := (slot_split m c ch.1 p.castSucc.succ ch.2) $$ Hb
  icases Hb2 with ⟨HbL, HbR⟩
  rw [wp_bind]
  iapply (hop_out m K c ch p.succ (by rw [hv']; exact h) n hn _) $$ [Hf HbL HO]
  · isplitr; · iexact Hk
    isplitl [Hf]; · iexact Hf
    isplitl [HbL]; · rw [lent_succ]; iexact HbL
    isplitr; · iexact Hr
    iexact HO
  iintro ⟨Hcr, HO⟩
  iapply (tile_step m sc c ch.1 p.castSucc.succ ch.2 fullShare.right T _ (offs_inb ch.1 c p.castSucc ch.2) (off_hop ch.1 c p.castSucc ch.2) _) $$ [HbR Hc Ho]
  · isplitl [HbR]; · iexact HbR
    isplitl [Hc]; · iexact Hc
    iexact Ho
  iintro ⟨HbR, Hc, Ho⟩
  iapply HQ
  isplitl [Hfs Hat Hcr Hl Hls Hts Hz HbR Hks]
  · isplitl [Hfs Hat Hcr Hl Hls]
    · isplitl [Hfs]; · iexact Hfs
      isplitl [Hat Hcr]
      · isplitl [Hat]; · iexact Hat
        iexact Hcr
      isplitl [Hl]; · iexact Hl
      iexact Hls
    isplitl [Hts]; · iexact Hts
    isplitl [Hz HbR]
    · unfold kept
      isplitl [Hz]; · iexact Hz
      isplitl [HbR]; · iexact HbR
      rw [if_pos (by rw [hv]; exact h)]
      iempintro
    iexact Hks
  isplitl [HO]; · iexact HO
  isplitl [Hc]; · iexact Hc
  iexact Ho

/-- The last turn of one chain. -/
theorem chain_last (K : Dev nD × Cx → ℕ) (sc : F .f32) (c : Dev nD) (ch : Ch) (p : Fin 8) (h : p.val + 1 = len ch) (n : Ch → ℕ)
    (hw : ∀ ch' (p' : Fin 8), n ch' ≤ p'.val → p'.val < len ch' → p < p') (T : Set (Dev nD × Fin 2)) (Q : PUnit → sProp 𝕄) :
    iprop(know m K ∗ receiving m c ch p.val ∗ owing c (owed c n) ∗ colsHeld m c ∗ outHeld m sc c T)
      ⊢ iprop(((receiving m c ch (p.val + 1) ∗ owing c (owed c n) ∗ colsHeld m c
            ∗ outHeld m sc c (insert (org ch.1 c p.succ, ch.2) T)) -∗ Q ⟨⟩)
          -∗ runs c (lastTurn c sc ch.1 p ch.2) Q) := by
  have h0 : p.val < len ch := by omega
  unfold lastTurn receiving
  rw [ahead_take (F := F) h0 (ticket c ch), past_put p (kept m c ch)]
  unfold runs
  rw [wp_bind]
  iintro ⟨#Hk, ⟨⟨Ht, Hts⟩, Hks⟩, HO, Hc, Ho⟩ HQ
  iapply (hop_in m K c ch p h0 n hw _) $$ [Ht HO]
  · isplitr; · iexact Hk
    isplitl [Ht]; · unfold ticket; iexact Ht
    iexact HO
  iintro ⟨Hz, Hb, HO⟩
  unfold brought
  ihave Hb2 := (slot_split m c ch.1 p.succ ch.2) $$ Hb
  icases Hb2 with ⟨HbL, HbR⟩
  iapply (tile_step m sc c ch.1 p.succ ch.2 fullShare.right T _ (offs_inb ch.1 c p ch.2) (off_hop ch.1 c p ch.2) _) $$ [HbR Hc Ho]
  · isplitl [HbR]; · iexact HbR
    isplitl [Hc]; · iexact Hc
    iexact Ho
  iintro ⟨HbR, Hc, Ho⟩
  iapply HQ
  isplitl [Hts Hz HbR HbL Hks]
  · isplitl [Hts]; · iexact Hts
    isplitl [Hz HbR HbL]
    · unfold kept
      isplitl [Hz]; · iexact Hz
      isplitl [HbR]; · iexact HbR
      rw [if_neg (by omega)]
      iexact HbL
    iexact Hks
  isplitl [HO]; · iexact HO
  isplitl [Hc]; · iexact Hc
  iexact Ho

/-! ## All four chains -/

/-- The hop of a chain on its way out when `k` have come in. -/
abbrev outNo (ch : Ch) (k : ℕ) : ℕ := min k (len ch - 1)
/-- A chain when `k` of its hops have come in. -/
def chain (c : Dev nD) (ch : Ch) (k : ℕ) : sProp 𝕄 := iprop(sending m c ch (outNo ch k) ∗ receiving m c ch k)
/-- The halves multiplied when `k ch` hops of each chain have come in: the device's own, and those. -/
def covered (c : Dev nD) (k : Ch → ℕ) : Set (Dev nD × Fin 2) :=
  {b | b.1 = c ∨ ∃ (ch : Ch) (p : Fin 8), p.val < k ch ∧ b = (org ch.1 c p.succ, ch.2)}
/-- The state between turns. -/
def mid (sc : F .f32) (c : Dev nD) (k : Ch → ℕ) : sProp 𝕄 :=
  iprop((bigSep Finset.univ fun ch => chain m c ch (k ch)) ∗ owing c (owed c fun ch => k ch + 1) ∗ colsHeld m c ∗ outHeld m sc c (covered c k))

theorem covered_step (c : Dev nD) (k : Ch → ℕ) (ch : Ch) (p : Fin 8) (hk : k ch = p.val) :
    covered c (Function.update k ch (p.val + 1)) ⊆ insert (org ch.1 c p.succ, ch.2) (covered c k) := by
  rintro b (hb | ⟨ch', p', hp, rfl⟩)
  · exact .inr (.inl hb)
  · by_cases e : ch' = ch
    · subst e
      rw [Function.update_self] at hp
      rcases Nat.lt_succ_iff_lt_or_eq.mp hp with hp | hp
      · exact .inr (.inr ⟨ch', p', by rw [hk]; exact hp, rfl⟩)
      · exact .inl (by rw [Fin.ext hp])
    · rw [Function.update_of_ne e] at hp
      exact .inr (.inr ⟨ch', p', hp, rfl⟩)

/-- The chains but one are as they were. -/
theorem chains_but (c : Dev nD) (k : Ch → ℕ) (ch : Ch) (v : ℕ) :
    (bigSep Finset.univ fun ch' => chain m c ch' (Function.update k ch v ch'))
      = iprop(chain m c ch v ∗ bigSep (Finset.univ.erase ch) fun ch' => chain m c ch' (k ch')) := by
  rw [bigSep_univ_split ch, Function.update_self]
  exact congrArg _ (bigSep_congr fun ch' h => by rw [Function.update_of_ne (Finset.ne_of_mem_erase h)])
theorem chains_at (c : Dev nD) (k : Ch → ℕ) (ch : Ch) :
    (bigSep Finset.univ fun ch' => chain m c ch' (k ch'))
      = iprop(chain m c ch (k ch) ∗ bigSep (Finset.univ.erase ch) fun ch' => chain m c ch' (k ch')) :=
  bigSep_univ_split ch

/-- A turn, from state to state. -/
theorem turn_step (K : Dev nD × Cx → ℕ) (sc : F .f32) (c : Dev nD) (ch : Ch) (p : Fin 7) (h : p.val + 1 < len ch) (k : Ch → ℕ)
    (hk : k ch = p.val) (hw : ∀ ch' (p' : Fin 8), k ch' + 1 ≤ p'.val → p'.val < len ch' → p.castSucc < p') (Q : PUnit → sProp 𝕄) :
    iprop(know m K ∗ mid m sc c k)
      ⊢ iprop((mid m sc c (Function.update k ch (p.val + 1)) -∗ Q ⟨⟩) -∗ runs c (turn c sc ch.1 p ch.2) Q) := by
  unfold mid
  rw [chains_but, chains_at m c k ch, hk]
  unfold chain
  rw [show outNo ch p.val = p.val from by unfold outNo; omega, show outNo ch (p.val + 1) = p.val + 1 from by unfold outNo; omega]
  iintro ⟨#Hk, ⟨Hch, Hrest⟩, HO, Hc, Ho⟩ HQ
  iapply (chain_turn m K sc c ch p h (fun ch => k ch + 1) (by rw [hk]) hw (covered c k) Q) $$ [Hch HO Hc Ho]
  · isplitr; · iexact Hk
    isplitl [Hch]; · iexact Hch
    isplitl [HO]; · iexact HO
    isplitl [Hc]; · iexact Hc
    iexact Ho
  iintro ⟨Hch, HO, Hc, Ho⟩
  iapply HQ
  isplitl [Hch Hrest]
  · isplitl [Hch]; · iexact Hch
    iexact Hrest
  isplitl [HO]
  · rw [show (fun ch' => Function.update k ch (p.val + 1) ch' + 1) = Function.update (fun ch => k ch + 1) ch (p.val + 2) from by
      funext ch'
      by_cases e : ch' = ch
      · subst e; rw [Function.update_self, Function.update_self]
      · rw [Function.update_of_ne e, Function.update_of_ne e]]
    iexact HO
  isplitl [Hc]; · iexact Hc
  iapply (out_weaken m sc c (covered_step c k ch p.castSucc hk))
  iexact Ho

/-- A last turn, from state to state. -/
theorem last_step (K : Dev nD × Cx → ℕ) (sc : F .f32) (c : Dev nD) (ch : Ch) (p : Fin 8) (h : p.val + 1 = len ch) (k : Ch → ℕ)
    (hk : k ch = p.val) (hw : ∀ ch' (p' : Fin 8), k ch' + 1 ≤ p'.val → p'.val < len ch' → p < p') (Q : PUnit → sProp 𝕄) :
    iprop(know m K ∗ mid m sc c k)
      ⊢ iprop((mid m sc c (Function.update k ch (p.val + 1)) -∗ Q ⟨⟩) -∗ runs c (lastTurn c sc ch.1 p ch.2) Q) := by
  unfold mid
  rw [chains_but, chains_at m c k ch, hk]
  unfold chain
  rw [show outNo ch (p.val + 1) = outNo ch p.val from by unfold outNo; omega]
  iintro ⟨#Hk, ⟨⟨Hs, Hch⟩, Hrest⟩, HO, Hc, Ho⟩ HQ
  iapply (chain_last m K sc c ch p h (fun ch => k ch + 1) hw (covered c k) Q) $$ [Hch HO Hc Ho]
  · isplitr; · iexact Hk
    isplitl [Hch]; · iexact Hch
    isplitl [HO]; · iexact HO
    isplitl [Hc]; · iexact Hc
    iexact Ho
  iintro ⟨Hch, HO, Hc, Ho⟩
  iapply HQ
  isplitl [Hs Hch Hrest]
  · isplitl [Hs Hch]
    · isplitl [Hs]; · iexact Hs
      iexact Hch
    iexact Hrest
  isplitl [HO]
  · rw [owed_congr c (fun ch' => Function.update k ch (p.val + 1) ch' + 1) (fun ch => k ch + 1) fun ch' => by
      by_cases e : ch' = ch
      · subst e; rw [Function.update_self, ahead_end (by omega), ahead_end (by omega)]
      · rw [Function.update_of_ne e]]
    iexact HO
  isplitl [Hc]; · iexact Hc
  iapply (out_weaken m sc c (covered_step c k ch p hk))
  iexact Ho

end Cert.Fan

end
-- ==== Proof.Course.lean ====
/- From the first turn to the last wait.

   Turn by turn, from no hop come in to every hop come in (`rounds_run`, `endings_run`), and then the chains' last sources
   come back (`drain_run`). -/
module

public import proofs.«01_k».proof.Proof.Turns

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Over the four chains, one by one. -/
theorem over_chains (Φ : Ch → sProp 𝕄) :
    bigSep Finset.univ Φ = iprop(Φ (false, 0) ∗ Φ (false, 1) ∗ Φ (true, 0) ∗ Φ (true, 1)) := by
  rw [show (Finset.univ : Finset Ch) = {(false, 0), (false, 1), (true, 0), (true, 1)} by decide,
    bigSep_insert (by decide), bigSep_insert (by decide), bigSep_insert (by decide), bigSep_singleton]
  rfl

/-- A counter raised keeps every counter at least where it was. -/
theorem raise_ge {k : Ch → ℕ} {n : ℕ} (h : ∀ ch, n ≤ k ch) (ch : Ch) : ∀ ch', n ≤ Function.update k ch (n + 1) ch' := by
  intro ch'
  by_cases e : ch' = ch
  · subst e; rw [Function.update_self]; omega
  · rw [Function.update_of_ne e]; exact h ch'
theorem wait_ok {k : Ch → ℕ} {p : Fin 7} (h : ∀ ch, p.val ≤ k ch) :
    ∀ (ch' : Ch) (p' : Fin 8), k ch' + 1 ≤ p'.val → p'.val < len ch' → p.castSucc < p' := by
  intro ch' p' h1 _
  have := h ch'
  show p.val < p'.val
  omega

/-- A round of turns, one on every chain. -/
theorem round_run (K : Dev nD × Cx → ℕ) (sc : F .f32) (c : Dev nD) (p : Fin 7) (hp : p.val < 6)
    (R : Prog (TpuEff nD τ sig (Elt F) Λ₀ .tc) PUnit) (Q : PUnit → sProp 𝕄) :
    iprop(know m K ∗ mid m sc c fun _ => p.val)
      ⊢ iprop(((mid m sc c fun _ => p.val + 1) -∗ runs c R Q)
          -∗ runs c (do turn c sc false p 0; turn c sc true p 0; turn c sc false p 1; turn c sc true p 1; R) Q) := by
  have g0 : ∀ ch : Ch, p.val ≤ (fun _ : Ch => p.val) ch := fun _ => le_rfl
  have g1 := raise_ge g0 (false, 0)
  have g2 := raise_ge g1 (true, 0)
  have g3 := raise_ge g2 (false, 1)
  have hl : ∀ ch : Ch, p.val + 1 < len ch := fun ch => by have : ∀ ch : Ch, 7 ≤ len ch := by decide
                                                          have := this ch; omega
  have e : Function.update (Function.update (Function.update (Function.update (fun _ : Ch => p.val) (false, 0) (p.val + 1)) (true, 0) (p.val + 1))
      (false, 1) (p.val + 1)) (true, 1) (p.val + 1) = fun _ => p.val + 1 := by
    funext ⟨d, s⟩
    have hs : s = 0 ∨ s = 1 := by revert s; decide
    rcases d with _ | _ <;> rcases hs with rfl | rfl <;> rfl
  unfold runs
  rw [wp_bind]
  iintro ⟨#Hk, Hm⟩ HQ
  iapply (turn_step m K sc c (false, 0) p (hl _) (fun _ => p.val) rfl (wait_ok g0) _) $$ [Hm]
  · isplitr; · iexact Hk
    iexact Hm
  iintro Hm
  rw [wp_bind]
  iapply (turn_step m K sc c (true, 0) p (hl _) _ rfl (wait_ok g1) _) $$ [Hm]
  · isplitr; · iexact Hk
    iexact Hm
  iintro Hm
  rw [wp_bind]
  iapply (turn_step m K sc c (false, 1) p (hl _) _ rfl (wait_ok g2) _) $$ [Hm]
  · isplitr; · iexact Hk
    iexact Hm
  iintro Hm
  rw [wp_bind]
  iapply (turn_step m K sc c (true, 1) p (hl _) _ rfl (wait_ok g3) _) $$ [Hm]
  · isplitr; · iexact Hk
    iexact Hm
  iintro Hm
  iapply HQ
  rw [e]
  iexact Hm

/-- The six rounds in which all four chains go on. -/
theorem rounds_run (K : Dev nD × Cx → ℕ) (sc : F .f32) (c : Dev nD) (Q : PUnit → sProp 𝕄) :
    iprop(know m K ∗ mid m sc c fun _ => 0)
      ⊢ iprop(((mid m sc c fun _ => 6) -∗ Q ⟨⟩) -∗ runs c (rounds c sc [0, 1, 2, 3, 4, 5]) Q) := by
  iintro ⟨#Hk, Hm⟩ HQ
  unfold rounds
  iapply (round_run m K sc c 0 (by decide) _ Q) $$ [Hm]
  · isplitr; · iexact Hk
    iexact Hm
  iintro Hm
  unfold rounds
  iapply (round_run m K sc c 1 (by decide) _ Q) $$ [Hm]
  · isplitr; · iexact Hk
    iexact Hm
  iintro Hm
  unfold rounds
  iapply (round_run m K sc c 2 (by decide) _ Q) $$ [Hm]
  · isplitr; · iexact Hk
    iexact Hm
  iintro Hm
  unfold rounds
  iapply (round_run m K sc c 3 (by decide) _ Q) $$ [Hm]
  · isplitr; · iexact Hk
    iexact Hm
  iintro Hm
  unfold rounds
  iapply (round_run m K sc c 4 (by decide) _ Q) $$ [Hm]
  · isplitr; · iexact Hk
    iexact Hm
  iintro Hm
  unfold rounds
  iapply (round_run m K sc c 5 (by decide) _ Q) $$ [Hm]
  · isplitr; · iexact Hk
    iexact Hm
  iintro Hm
  unfold rounds runs
  rw [Prog.pure_eq_ret, wp_ret]
  imodintro
  iapply HQ
  iexact Hm

/-- The counters as the chains end, one after another. -/
abbrev k0 : Ch → ℕ := fun _ => 6
abbrev k1 : Ch → ℕ := Function.update k0 (false, 0) 7
abbrev k2 : Ch → ℕ := Function.update k1 (true, 0) 7
abbrev k3 : Ch → ℕ := Function.update k2 (false, 1) 7
abbrev k4 : Ch → ℕ := Function.update k3 (true, 1) 7
abbrev k5 : Ch → ℕ := Function.update k4 (false, 0) 8
abbrev k6 : Ch → ℕ := Function.update k5 (true, 1) 8
theorem k6_eq : k6 = len := by decide

/-- The last turns. -/
theorem endings_run (K : Dev nD × Cx → ℕ) (sc : F .f32) (c : Dev nD) (Q : PUnit → sProp 𝕄) :
    iprop(know m K ∗ mid m sc c fun _ => 6)
      ⊢ iprop((mid m sc c len -∗ Q ⟨⟩) -∗ runs c (endings c sc) Q) := by
  unfold endings runs
  rw [wp_bind]
  iintro ⟨#Hk, Hm⟩ HQ
  iapply (turn_step m K sc c (false, 0) 6 (by decide) k0 rfl (by decide) _) $$ [Hm]
  · isplitr; · iexact Hk
    iexact Hm
  iintro Hm
  rw [wp_bind]
  iapply (last_step m K sc c (true, 0) 6 (by decide) k1 rfl (by decide) _) $$ [Hm]
  · isplitr; · iexact Hk
    iexact Hm
  iintro Hm
  rw [wp_bind]
  iapply (last_step m K sc c (false, 1) 6 (by decide) k2 rfl (by decide) _) $$ [Hm]
  · isplitr; · iexact Hk
    iexact Hm
  iintro Hm
  rw [wp_bind]
  iapply (turn_step m K sc c (true, 1) 6 (by decide) k3 rfl (by decide) _) $$ [Hm]
  · isplitr; · iexact Hk
    iexact Hm
  iintro Hm
  rw [wp_bind]
  iapply (last_step m K sc c (false, 0) 7 (by decide) k4 rfl (by decide) _) $$ [Hm]
  · isplitr; · iexact Hk
    iexact Hm
  iintro Hm
  iapply (last_step m K sc c (true, 1) 7 (by decide) k5 rfl (by decide) Q) $$ [Hm]
  · isplitr; · iexact Hk
    iexact Hm
  iintro Hm
  iapply HQ
  rw [← k6_eq]
  iexact Hm

/-- A chain whose sources are all back. -/
def freed (c : Dev nD) (ch : Ch) : sProp 𝕄 := iprop(atPos ER (sndC c ch) (len ch) ∅ 0 ∗ bigSep (past (len ch)) (lent m c ch))

/-- A chain, all its hops come in, gets its last source back. -/
theorem free_last (K : Dev nD × Cx → ℕ) (c : Dev nD) (ch : Ch) (p : Fin 8) (h : p.val + 1 = len ch) (n : Ch → ℕ) (Q : PUnit → sProp 𝕄) :
    iprop(know m K ∗ sending m c ch (outNo ch (len ch)) ∗ owing c (owed c n))
      ⊢ iprop(((freed m c ch ∗ owing c (owed c n)) -∗ Q ⟨⟩) -∗ runs c (waitLeave ch.1 p ch.2) Q) := by
  unfold sending freed
  rw [show outNo ch (len ch) = p.val from by unfold outNo; omega, ← h, past_put p (lent m c ch)]
  iintro ⟨#Hk, ⟨-, Hs, Hl⟩, HO⟩ HQ
  iapply (hop_free m K c ch p (by omega) n _) $$ [Hs HO]
  · isplitr; · iexact Hk
    isplitl [Hs]; · iexact Hs
    iexact HO
  iintro ⟨Hat, -, Hl', HO⟩
  iapply HQ
  isplitr [HO]
  rotate_left
  · iexact HO
  isplitl [Hat]; · iexact Hat
  isplitl [Hl']; · iexact Hl'
  iexact Hl

/-- All transfers over. -/
def over (sc : F .f32) (c : Dev nD) : sProp 𝕄 :=
  iprop((bigSep Finset.univ fun ch => iprop(freed m c ch ∗ receiving m c ch (len ch))) ∗ owing c (owed c fun ch => len ch + 1) ∗ colsHeld m c
    ∗ outHeld m sc c (covered c len))

/-- The last waits. -/
theorem drain_run (K : Dev nD × Cx → ℕ) (sc : F .f32) (c : Dev nD) (Q : PUnit → sProp 𝕄) :
    iprop(know m K ∗ mid m sc c len) ⊢ iprop((over m sc c -∗ Q ⟨⟩) -∗ runs c drain Q) := by
  unfold mid over drain runs
  rw [over_chains, over_chains, wp_bind]
  unfold chain
  iintro ⟨#Hk, ⟨⟨Ha, Ha'⟩, ⟨Hb, Hb'⟩, ⟨Hc, Hc'⟩, ⟨Hd, Hd'⟩⟩, HO, Hr⟩ HQ
  iapply (free_last m K c (false, 0) 7 rfl _ _) $$ [Ha HO]
  · isplitr; · iexact Hk
    isplitl [Ha]; · iexact Ha
    iexact HO
  iintro ⟨Ha, HO⟩
  rw [wp_bind]
  iapply (free_last m K c (false, 1) 6 rfl _ _) $$ [Hb HO]
  · isplitr; · iexact Hk
    isplitl [Hb]; · iexact Hb
    iexact HO
  iintro ⟨Hb, HO⟩
  rw [wp_bind]
  iapply (free_last m K c (true, 0) 6 rfl _ _) $$ [Hc HO]
  · isplitr; · iexact Hk
    isplitl [Hc]; · iexact Hc
    iexact HO
  iintro ⟨Hc, HO⟩
  iapply (free_last m K c (true, 1) 7 rfl _ Q) $$ [Hd HO]
  · isplitr; · iexact Hk
    isplitl [Hd]; · iexact Hd
    iexact HO
  iintro ⟨Hd, HO⟩
  iapply HQ
  isplitr [HO Hr]
  rotate_left
  · isplitl [HO]; · iexact HO
    iexact Hr
  isplitl [Ha Ha']
  · isplitl [Ha]; · iexact Ha
    iexact Ha'
  isplitl [Hb Hb']
  · isplitl [Hb]; · iexact Hb
    iexact Hb'
  isplitl [Hc Hc']
  · isplitl [Hc]; · iexact Hc
    iexact Hc'
  isplitl [Hd]; · iexact Hd
  iexact Hd'

/-- Every half of every device is the device's own or comes in by some chain. -/
theorem covered_all : ∀ (c : Dev nD) (b : Dev nD × Fin 2), b ∈ covered c len := by
  have h : ∀ (c o : Dev nD) (s : Fin 2), o = c ∨ ∃ (d : Bool) (p : Fin 8), p.val < len (d, s) ∧ o = org d c p.succ := by decide +kernel
  rintro c ⟨o, s⟩
  rcases h c o s with h | ⟨d, p, hp, h⟩
  · exact .inl h
  · exact .inr ⟨(d, s), p, hp, Prod.ext h rfl⟩

end Cert.Fan

end
-- ==== Proof.Begin.lean ====
/- Up to the first turn.

   The handshake (`greet_run`), the staging of the device's rows and columns (`stageHalf_run`, `stageW_run`), the scales
   and the tiles of the device's own rows. -/
module

public import proofs.«01_k».proof.Proof.Course

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The slots of its own that a device's neighbour fills. -/
def landing (c : Dev nD) (d : Bool) : sProp 𝕄 :=
  bigSep Finset.univ fun s : Fin 2 => bigSep (ahead (d, s) 0) fun p => slotE (F := F) c d p.succ s
theorem ground_nb (d : Bool) (c : Dev nD) : (ground (nb (!d) c) d : sProp 𝕄) = landing c d := by
  unfold ground landing; rw [nb_nb]

/-- A unit to a neighbour's barrier, with the slots that neighbour fills. -/
theorem signal_run (K : Dev nD × Cx → ℕ) (c : Dev nD) (d : Bool) (O : CellTallies nD τ sig Unit)
    (R : Prog (TpuEff nD τ sig (Elt F) Λ₀ .tc) PUnit) (Q : PUnit → sProp 𝕄) :
    iprop(know m K ∗ landing c d ∗ dutyTok ER (barC (nb (!d) c)) 0 d ∗ owing c (O + tallyAt (barC (nb (!d) c)) () 1))
      ⊢ iprop((owing c O -∗ runs c R Q) -∗ runs c (do semSignalWord (nb (!d) c) barS 1#32; R) Q) := by
  unfold owing
  iintro ⟨#Hk, Hl, Ht, ⟨%W, HO⟩⟩ HQ
  simp only [semSignalWord, Prog.lift, Prog.bind_op, Prog.bind_ret]
  iapply (Rounds.wp_signal 𝒱₀ ER (Rd m) (c : Thread nD τ) none (defs := defs₀ (F := F)) (dst := (nb (!d) c : Thread nD τ)) (κ := K (nb (!d) c, none))
      (sem := barS) (r := 0) (W := W)
      (d := d) (by rw [show (((nb (!d) c : Dev nD) : Thread nD τ), SemLoc.reg barS) = barC (nb (!d) c) from rfl, duties_cell]; exact Finset.mem_univ _)
      ((amount_cell m (nb (!d) c) none 0 d).trans (by decide)) () O rfl) $$ [Hl Ht HO]
  · isplitr; · iapply (know_inv m K (nb (!d) c) none); iexact Hk
    isplitl [HO]; · iexact HO
    isplitl [Ht]; · iexact Ht
    isplitl [Hl]
    · rw [show (Rd m).payload (((nb (!d) c : Dev nD) : Thread nD τ), SemLoc.reg barS) 0 d = ground (nb (!d) c) d from payload_cell m (nb (!d) c) none 0 d, ground_nb]
      iexact Hl
    iapply (know_begun m K (nb (!d) c) none); iexact Hk
  iintro HO
  iapply HQ
  iexists W; iexact HO

/-- The handshake: a device gives its own slots to the neighbours and gets theirs; its barrier has served. -/
theorem greet_run (K : Dev nD × Cx → ℕ) (c : Dev nD) (Q : PUnit → sProp 𝕄) :
    iprop(know m K ∗ (landing c false ∗ landing c true) ∗ (dutyTok ER (barC (nb true c)) 0 false ∗ dutyTok ER (barC (nb false c)) 0 true)
        ∗ (atPos ER (barC c) 0 ∅ 0 ∗ cred (tallyAt (barC c) () 2)) ∗ owing c (O₀ c))
      ⊢ iprop(((semVal (barC c) 0 ∗ (ground c false ∗ ground c true) ∗ owing c (owed c fun _ => 0)) -∗ Q ⟨⟩) -∗ runs c (greet c) Q) := by
  iintro ⟨#Hk, ⟨Hl, Hl'⟩, ⟨Ht, Ht'⟩, ⟨Hat, Hcr⟩, HO⟩ HQ
  unfold greet
  iapply (signal_run m K c false (owed c (fun _ => 0) + tallyAt (barC (nb false c)) () 1) _ Q) $$ [Hl Ht HO]
  · isplitr; · iexact Hk
    isplitl [Hl]; · iexact Hl
    isplitl [Ht]; · iexact Ht
    iexact HO
  iintro HO
  iapply (signal_run m K c true (owed c fun _ => 0) _ Q) $$ [Hl' Ht' HO]
  · isplitr; · iexact Hk
    isplitl [Hl']; · iexact Hl'
    isplitl [Ht']; · iexact Ht'
    iexact HO
  unfold owing
  iintro ⟨%W, HO⟩
  simp only [semWaitWord, Prog.lift]
  have key := Rounds.wp_wait_rest_token 𝒱₀ ER (Rd m) (c : Thread nD τ) none (defs := defs₀ (F := F)) (Γ := .empty) (Q := Q) (k := .ret)
      (κ := K (c, none)) (sm := csem none) (k' := 2) (w := .semWait barS (2#32 : BitVec 32).toInt)
      (wpE_semWait_eq 𝒱₀ (c : Thread nD τ) none Set.univ) (Set.mem_univ _) () (O := owed c fun _ => 0) (W := W) (R := 0) (m := 0) (T := ∅)
      (by rw [expect_cell]; decide)
  iapply key $$ [Hat Hcr HO]
  · isplitr; · iapply (know_inv m K c none); iexact Hk
    isplitl [Hcr]; · iexact Hcr
    isplitl [HO]; · iexact HO
    isplitr; · iapply ((know_rank m K).trans (mayWait_bar c _)); iexact Hk
    iexact Hat
  iintro ⟨HO, Hat, -, Hpay⟩
  ihave Hb := (Entails.of_eq ((rest_cell m c none 0).trans
    (by rw [duty_bar, show (Finset.univ : Finset Bool) = {false, true} from by decide, bigSep_insert (by decide), bigSep_singleton]; rfl :
    _ = iprop(ground (F := F) c false ∗ ground c true)))) $$ Hpay
  imod (Rounds.cell_close ER (Rd m) (Set.mem_univ (K (c, none))) (fun h => h) (R := 0 + 1)
    (fun r hr => (duties_cell m c none r).trans (duty_bar_end _ hr))) $$ [Hat] with Hz
  · isplitr; · iapply (know_inv m K c none); iexact Hk
    iexact Hat
  rw [wp_ret]
  imodintro
  iapply HQ
  isplitl [Hz]; · iexact Hz
  isplitl [Hb]; · iexact Hb
  iexists _; iexact HO

/-- A chain before its first hop: every fare, and its source cell at the first round. -/
def fresh (c : Dev nD) (ch : Ch) : sProp 𝕄 := iprop(bigSep (ahead ch 0) (fare (F := F) c ch) ∗ atPos ER (sndC c ch) 0 ∅ 0)

/-- The first hop of a chain, out of what the staging step stored. -/
theorem first_out (K : Dev nD × Cx → ℕ) (c : Dev nD) (ch : Ch) (n : Ch → ℕ) (hn : n ch = 0) (Q : PUnit → sProp 𝕄) :
    iprop(know m K ∗ fresh c ch ∗ lent m c ch 0 ∗ owing c (owed c n))
      ⊢ iprop(((sending m c ch 0 ∗ owing c (owed c (Function.update n ch 1))) -∗ Q ⟨⟩) -∗ runs c (send c ch.1 0 ch.2) Q) := by
  unfold fresh sending
  have t1 : bigSep (ahead ch 0) (fare (F := F) c ch) = _ := ahead_take (p := 0) (len_pos ch) _
  rw [t1, past_zero, bigSep_empty]
  iintro ⟨#Hk, ⟨⟨Hf, Hfs⟩, Hat⟩, Hl, HO⟩ HQ
  iapply (hop_out m K c ch 0 (len_pos ch) n hn Q) $$ [Hf Hl HO]
  · isplitr; · iexact Hk
    isplitl [Hf]; · iexact Hf
    isplitl [Hl]; · iexact Hl
    isplitr; · iapply (know_begun m K c (some (.inl ch))); iexact Hk
    iexact HO
  iintro ⟨Hc, HO⟩
  iapply HQ
  isplitr [HO]
  rotate_left
  · iexact HO
  isplitl [Hfs]; · iexact Hfs
  isplitl [Hat Hc]
  · isplitl [Hat]; · iexact Hat
    iexact Hc
  iempintro

/-- Slot 0 in its three parts: what goes right, what goes left, and what stays. -/
theorem slot0_split (c : Dev nD) (s : Fin 2) :
    slotC m c false 0 s fullShare ⊢ iprop(lent m c (false, s) 0 ∗ lent m c (true, s) 0 ∗ slotC m c false 0 s fullShare.right) := by
  iintro H
  ihave H2 := (slot_split m c false 0 s) $$ H
  icases H2 with ⟨HL, HR⟩
  unfold lent slotC slotPt
  ihave H3 := (pointsTo_share (PosShare.mem_left_op_right fullShare.left)).1 $$ HL
  icases H3 with ⟨Ha, Hb⟩
  isplitl [Ha]; · iexact Ha
  isplitl [Hb]; · iexact Hb
  iexact HR
theorem slot0_join (c : Dev nD) (s : Fin 2) :
    iprop(lent m c (false, s) 0 ∗ lent m c (true, s) 0 ∗ slotC m c false 0 s fullShare.right) ⊢ slotC m c false 0 s fullShare := by
  iintro ⟨Ha, Hb, HR⟩
  iapply (slot_join m c false 0 s)
  isplitr [HR]
  rotate_left
  · iexact HR
  unfold lent slotC slotPt
  iapply (pointsTo_share (PosShare.mem_left_op_right fullShare.left)).2
  isplitl [Ha]; · iexact Ha
  iexact Hb

/-- The device's rows, staged. -/
def rowsHeld (c : Dev nD) : sProp 𝕄 := ((c : Thread nD τ).loc cc0_stg0_0) ↦{fullShare} (xin m c)

/-- Half `s` of the device's rows into slot 0 and off both ways. -/
theorem stageHalf_run (K : Dev nD × Cx → ℕ) (c : Dev nD) (s : Fin 2) (n : Ch → ℕ) (h0 : n (false, s) = 0) (h1 : n (true, s) = 0) (Q : PUnit → sProp 𝕄) :
    iprop(know m K ∗ rowsHeld m c ∗ slotE c false 0 s ∗ (fresh c (false, s) ∗ fresh c (true, s)) ∗ owing c (owed c n))
      ⊢ iprop(((rowsHeld m c ∗ slotC m c false 0 s fullShare.right ∗ (sending m c (false, s) 0 ∗ sending m c (true, s) 0)
            ∗ owing c (owed c (Function.update (Function.update n (false, s) 1) (true, s) 1))) -∗ Q ⟨⟩)
          -∗ runs c (stageHalf c s) Q) := by
  unfold stageHalf rowsHeld slotE
  iintro ⟨#Hk, Hx, ⟨%f, Hs⟩, ⟨Hf, Hf'⟩, HO⟩ HQ
  unfold slotPt
  simp only [Prog.lift, Prog.bind_op, Prog.bind_ret]
  iapply (wp_load_rect 𝒱₀ (c : Thread nD τ) none Set.univ (defs := defs₀ (F := F)) (m := xM)
    (r := Rect.unit (s := S256x4096) ![128 * s.val, 0] S128x4096.size (xrect_inb s)) (S := Finset.univ) (Finset.subset_univ _)) $$ Hx
  iintro Hx
  iapply (wp_load_rect 𝒱₀ (c : Thread nD τ) none Set.univ (defs := defs₀ (F := F)) (m := bufM false)
    (r := Rect.unit (s := S9x256x4096) ![(0 : Fin 9).val, 128 * s.val, 0] S1x128x4096.size (rect_inb 0 s)) (S := (slotV false 0 s).set) (q := fullShare) (f := f) subset_rfl) $$ [Hs]
  · iexact Hs
  iintro Hs
  iapply (wp_store 𝒱₀ (c : Thread nD τ) none Set.univ (defs := defs₀ (F := F)) (m := bufM false)
    (r := Rect.unit (s := S9x256x4096) ![(0 : Fin 9).val, 128 * s.val, 0] S1x128x4096.size (rect_inb 0 s)) (S := (slotV false 0 s).set) (f := f)
    (by rw [View.setOn_univ]; exact subset_rfl)) $$ [Hs]
  · iexact Hs
  iintro Hs
  ihave Hs := (Entails.of_eq (pointsTo_congr (stage_write m c s f)) :
    _ ⊢ slotC m c false 0 s fullShare) $$ [Hs]
  · iexact Hs
  ihave Hs3 := (slot0_split m c s) $$ Hs
  icases Hs3 with ⟨Ha, Hb, Hc⟩
  rw [wp_bind]
  iapply (first_out m K c (false, s) n h0 _) $$ [Hf Ha HO]
  · isplitr; · iexact Hk
    isplitl [Hf]; · iexact Hf
    isplitl [Ha]; · iexact Ha
    iexact HO
  iintro ⟨Hf, HO⟩
  iapply (first_out m K c (true, s) (Function.update n (false, s) 1) (by rw [Function.update_of_ne (by simp)]; exact h1) Q) $$ [Hf' Hb HO]
  · isplitr; · iexact Hk
    isplitl [Hf']; · iexact Hf'
    isplitl [Hb]; · iexact Hb
    iexact HO
  iintro ⟨Hf', HO⟩
  iapply HQ
  isplitl [Hx]; · iexact Hx
  isplitl [Hc]; · iexact Hc
  isplitl [Hf Hf']
  · isplitl [Hf]; · iexact Hf
    iexact Hf'
  iexact HO

/-- The device's columns, staged, into their scratch buffer. -/
theorem stageW_run (c : Dev nD) (Q : PUnit → sProp 𝕄) :
    iprop((((c : Thread nD τ).loc cc0_stg1_0) ↦{fullShare} (win m c)) ∗ (∃ f : Buf (Elt F) ((c : Thread nD τ).loc cc0_scratch2), ((c : Thread nD τ).loc cc0_scratch2) ↦{fullShare} f))
      ⊢ iprop((((((c : Thread nD τ).loc cc0_stg1_0) ↦{fullShare} (win m c)) ∗ colsHeld m c) -∗ Q ⟨⟩) -∗ runs c stageW Q) := by
  unfold stageW
  iintro ⟨Hw, ⟨%f, Hs⟩⟩ HQ
  simp only [Prog.lift, Prog.bind_op, Prog.bind_ret]
  iapply (wp_load_rect 𝒱₀ (c : Thread nD τ) none Set.univ (defs := defs₀ (F := F)) (m := wM)
    (r := Rect.unit (s := S4096x128) ![0, 0] S4096x128.size inb_S4096x128_S4096x128_0_0) (S := Finset.univ) (Finset.subset_univ _)) $$ Hw
  iintro Hw
  iapply (wp_load_rect 𝒱₀ (c : Thread nD τ) none Set.univ (defs := defs₀ (F := F)) (m := w8M)
    (r := Rect.unit (s := S4096x128) ![0, 0] S4096x128.size inb_S4096x128_S4096x128_0_0) (S := Finset.univ) (Finset.subset_univ _)) $$ Hs
  iintro Hs
  iapply (wp_store 𝒱₀ (c : Thread nD τ) none Set.univ (defs := defs₀ (F := F)) (m := w8M)
    (r := Rect.unit (s := S4096x128) ![0, 0] S4096x128.size inb_S4096x128_S4096x128_0_0) (S := Finset.univ) (Finset.subset_univ _)) $$ Hs
  iintro Hs
  rw [wp_ret]
  imodintro
  iapply HQ
  isplitl [Hw]; · iexact Hw
  unfold colsHeld
  have e1 : (wM.access (Rect.unit (s := S4096x128) ![0, 0] S4096x128.size inb_S4096x128_S4096x128_0_0)).read (Elt F) (win m c) = win m c :=
    Memref.readAt_unit_zero (Elt F) cc0_stg1_0 zz _ _
  have e2 : (w8M.access (Rect.unit (s := S4096x128) ![0, 0] S4096x128.size inb_S4096x128_S4096x128_0_0)).write (Elt F) f (cols m c) Finset.univ = cols m c :=
    Memref.write_access_unit_zero_univ (Elt F) cc0_scratch2 zz inb_S4096x128_S4096x128_0_0 f (cols m c)
  rw [e1]
  rw [show k0_pay4 (win m c) = cols m c from rfl]
  rw [e2]
  iexact Hs

end Cert.Fan

end
-- ==== Proof.Whole.lean ====
/- A device's whole run, from the handshake to the last wait (`whole_run`). -/
module

public import proofs.«01_k».proof.Proof.Begin

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The product of the two scales, as a device reads them. -/
def scale (c : Dev nD) : F .f32 :=
  k0_pay5 ((sxM.access (Rect.unit (s := S1) ![0] S1.size inb_S1_S1_0)).read (Elt F) (sxin m c) (Shape.Idx.first (s := S1) (by decide)))
    ((swM.access (Rect.unit (s := S1) ![0] S1.size inb_S1_S1_0)).read (Elt F) (swin m c) (Shape.Idx.first (s := S1) (by decide)))

/-- The staged arguments of a device. -/
def stagedIn (c : Dev nD) : sProp 𝕄 :=
  iprop(rowsHeld m c ∗ (((c : Thread nD τ).loc cc0_stg1_0) ↦{fullShare} (win m c)) ∗ (((c : Thread nD τ).loc cc0_stg2_0) ↦{fullShare} (sxin m c))
    ∗ (((c : Thread nD τ).loc cc0_stg3_0) ↦{fullShare} (swin m c)))

/-- What a device starts with, besides its buffers: the raises it makes, its places at its own cells, and the raises promised to it. -/
def chainStart (c : Dev nD) (ch : Ch) : sProp 𝕄 :=
  iprop((bigSep (ahead ch 0) fun p => iprop(dutyTok ER (sndC c ch) p.val false ∗ dutyTok ER (rcvC (nb ch.1 c) ch p) 0 false))
    ∗ atPos ER (sndC c ch) 0 ∅ 0 ∗ bigSep (ahead ch 0) (ticket (F := F) c ch))
def barStart (c : Dev nD) : sProp 𝕄 :=
  iprop((dutyTok ER (barC (nb true c)) 0 false ∗ dutyTok ER (barC (nb false c)) 0 true) ∗ (atPos ER (barC c) 0 ∅ 0 ∗ cred (tallyAt (barC c) () 2)))

/-- Over the two halves, one by one. -/
theorem over_halves (Φ : Fin 2 → sProp 𝕄) : bigSep Finset.univ Φ = iprop(Φ 0 ∗ Φ 1) := bigSep_fin_two Φ

theorem zip_chains (Φ Ψ : Ch → sProp 𝕄) : iprop(bigSep Finset.univ Φ ∗ bigSep Finset.univ Ψ) ⊢ bigSep Finset.univ fun ch => iprop(Φ ch ∗ Ψ ch) :=
  Entails.of_eq (bigSep_sep _ _ _).symm
theorem unzip_chains (Φ Ψ : Ch → sProp 𝕄) : (bigSep Finset.univ fun ch => iprop(Φ ch ∗ Ψ ch)) ⊢ iprop(bigSep Finset.univ Φ ∗ bigSep Finset.univ Ψ) :=
  Entails.of_eq (bigSep_sep _ _ _)

/-- With the neighbours' slots in hand, every chain is ready. -/
theorem ready (c : Dev nD) :
    iprop((bigSep Finset.univ fun ch => chainStart (F := F) c ch) ∗ ground c false ∗ ground c true)
      ⊢ iprop((bigSep Finset.univ fun ch => fresh (F := F) c ch) ∗ bigSep Finset.univ fun ch => receiving m c ch 0) := by
  have e (ch : Ch) : (bigSep (ahead ch 0) (fare (F := F) c ch))
      = iprop((bigSep (ahead ch 0) fun p => iprop(dutyTok ER (sndC c ch) p.val false ∗ dutyTok ER (rcvC (nb ch.1 c) ch p) 0 false))
        ∗ bigSep (ahead ch 0) fun p => slotE (nb ch.1 c) ch.1 p.succ ch.2) := by
    refine Eq.trans ?_ (bigSep_sep _ _ _)
    refine bigSep_congr fun p _ => ?_
    unfold fare
    refine BI.equiv_iff.mp ⟨?_, ?_⟩
    · show iprop(dutyTok ER (sndC c ch) p.val false ∗ dutyTok ER (rcvC (nb ch.1 c) ch p) 0 false ∗ slotE (nb ch.1 c) ch.1 p.succ ch.2) ⊢
        iprop((dutyTok ER (sndC c ch) p.val false ∗ dutyTok ER (rcvC (nb ch.1 c) ch p) 0 false) ∗ slotE (nb ch.1 c) ch.1 p.succ ch.2)
      iintro ⟨Ha, Hb, Hc⟩
      isplitr [Hc]
      rotate_left
      · iexact Hc
      isplitl [Ha]; · iexact Ha
      iexact Hb
    · show iprop((dutyTok ER (sndC c ch) p.val false ∗ dutyTok ER (rcvC (nb ch.1 c) ch p) 0 false) ∗ slotE (nb ch.1 c) ch.1 p.succ ch.2) ⊢
        iprop(dutyTok ER (sndC c ch) p.val false ∗ dutyTok ER (rcvC (nb ch.1 c) ch p) 0 false ∗ slotE (nb ch.1 c) ch.1 p.succ ch.2)
      iintro ⟨⟨Ha, Hb⟩, Hc⟩
      isplitl [Ha]; · iexact Ha
      isplitl [Hb]; · iexact Hb
      iexact Hc
  have one (ch : Ch) : iprop(chainStart (F := F) c ch ∗ bigSep (ahead ch 0) fun p => slotE (nb ch.1 c) ch.1 p.succ ch.2)
      ⊢ iprop(fresh c ch ∗ receiving m c ch 0) := by
    unfold chainStart fresh receiving
    rw [e ch, past_zero, bigSep_empty]
    iintro ⟨⟨Ha, Hb, Hc⟩, Hd⟩
    isplitl [Ha Hb Hd]
    · isplitl [Ha Hd]
      · isplitl [Ha]; · iexact Ha
        iexact Hd
      iexact Hb
    isplitl [Hc]; · iexact Hc
    iempintro
  have g : iprop(ground (F := F) c false ∗ ground c true) ⊢ bigSep Finset.univ fun ch : Ch => bigSep (ahead ch 0) fun p => slotE (F := F) (nb ch.1 c) ch.1 p.succ ch.2 := by
    unfold ground
    rw [over_chains, over_halves, over_halves]
    iintro ⟨⟨Ha, Hb⟩, Hc, Hd⟩
    isplitl [Ha]; · iexact Ha
    isplitl [Hb]; · iexact Hb
    isplitl [Hc]; · iexact Hc
    iexact Hd
  have all : (bigSep Finset.univ fun ch : Ch => iprop(chainStart (F := F) c ch ∗ bigSep (ahead ch 0) fun p => slotE (nb ch.1 c) ch.1 p.succ ch.2))
      ⊢ bigSep Finset.univ fun ch : Ch => iprop(fresh c ch ∗ receiving m c ch 0) := bigSep_mono fun ch _ => one ch
  iintro ⟨Ha, Hg⟩
  iapply (unzip_chains (fun ch => fresh (F := F) c ch) fun ch => receiving m c ch 0)
  iapply all
  iapply (zip_chains (fun ch => chainStart (F := F) c ch) fun ch => bigSep (ahead ch 0) fun p => slotE (F := F) (nb ch.1 c) ch.1 p.succ ch.2)
  isplitl [Ha]; · iexact Ha
  iapply g
  iexact Hg

/-- After both halves are staged, with the device's own tiles computed: no hop come in yet. -/
theorem covered_own (c : Dev nD) :
    covered c (fun _ => 0) ⊆ insert (org false c 0, 1) (insert (org false c 0, 0) ∅) := by
  rintro ⟨o, s⟩ (h | ⟨ch, p, hp, -⟩)
  · rw [org_zero]
    have hs : ∀ s : Fin 2, s = 0 ∨ s = 1 := by decide
    rcases hs s with rfl | rfl
    · exact .inr (.inl (Prod.ext h rfl))
    · exact .inl (Prod.ext h rfl)
  · exact absurd hp (Nat.not_lt_zero _)

/-- From the scales on. -/
theorem finish_run (K : Dev nD × Cx → ℕ) (sc : F .f32) (c : Dev nD) (Q : PUnit → sProp 𝕄) :
    iprop(know m K ∗ (slotC m c false 0 0 fullShare.right ∗ slotC m c false 0 1 fullShare.right)
        ∗ (bigSep Finset.univ fun ch => chain m c ch 0) ∗ owing c (owed c fun _ => 1) ∗ colsHeld m c ∗ outHeld m sc c ∅)
      ⊢ iprop((((slotC m c false 0 0 fullShare.right ∗ slotC m c false 0 1 fullShare.right) ∗ over m sc c) -∗ Q ⟨⟩) -∗ runs c (finish c sc) Q) := by
  unfold finish runs
  rw [wp_bind]
  iintro ⟨#Hk, ⟨H0, H1⟩, Hch, HO, Hc, Ho⟩ HQ
  iapply (tile_step m sc c false 0 0 fullShare.right ∅ _ (k0_off1_inb c 0) (off_own0 c) _) $$ [H0 Hc Ho]
  · isplitl [H0]; · iexact H0
    isplitl [Hc]; · iexact Hc
    iexact Ho
  iintro ⟨H0, Hc, Ho⟩
  rw [wp_bind]
  iapply (tile_step m sc c false 0 1 fullShare.right _ _ (k0_off1_inb c 1) (off_own1 c) _) $$ [H1 Hc Ho]
  · isplitl [H1]; · iexact H1
    isplitl [Hc]; · iexact Hc
    iexact Ho
  iintro ⟨H1, Hc, Ho⟩
  ihave Ho := (out_weaken m sc c (covered_own c)) $$ Ho
  rw [wp_bind]
  iapply (rounds_run m K sc c _) $$ [Hch HO Hc Ho]
  · isplitr; · iexact Hk
    unfold mid
    isplitl [Hch]; · iexact Hch
    isplitl [HO]; · iexact HO
    isplitl [Hc]; · iexact Hc
    iexact Ho
  iintro Hm
  rw [wp_bind]
  iapply (endings_run m K sc c _) $$ [Hm]
  · isplitr; · iexact Hk
    iexact Hm
  iintro Hm
  iapply (drain_run m K sc c Q) $$ [Hm]
  · isplitr; · iexact Hk
    iexact Hm
  iintro Hv
  iapply HQ
  isplitr [Hv]
  rotate_left
  · iexact Hv
  isplitl [H0]; · iexact H0
  iexact H1

/-- What a device runs with. -/
def before (c : Dev nD) : sProp 𝕄 :=
  iprop(stagedIn m c ∗ (∃ f : Buf (Elt F) ((c : Thread nD τ).loc cc0_stg4_0), ((c : Thread nD τ).loc cc0_stg4_0) ↦{fullShare} f)
    ∗ (∃ f : Buf (Elt F) ((c : Thread nD τ).loc cc0_scratch2), ((c : Thread nD τ).loc cc0_scratch2) ↦{fullShare} f)
    ∗ ((slotE c false 0 0 ∗ slotE c false 0 1) ∗ landing c false ∗ landing c true)
    ∗ barStart c ∗ (bigSep Finset.univ fun ch => chainStart c ch) ∗ owing c (O₀ c))
/-- What it ends with. -/
def after (c : Dev nD) : sProp 𝕄 :=
  iprop(stagedIn m c ∗ semVal (barC c) 0 ∗ (slotC m c false 0 0 fullShare.right ∗ slotC m c false 0 1 fullShare.right) ∗ over m (scale m c) c)

/-- A device's whole run. -/
theorem whole_run (K : Dev nD × Cx → ℕ) (c : Dev nD) (Q : PUnit → sProp 𝕄) :
    iprop(know m K ∗ before m c) ⊢ iprop((after m c -∗ Q ⟨⟩) -∗ runs c clean Q) := by
  unfold before after scale stagedIn barStart clean runs
  simp only [Prog.lift, Prog.bind_op, Prog.bind_ret, wp_deviceId]
  iintro ⟨#Hk, ⟨Hx, Hw, Hsx, Hsw⟩, ⟨%fo, Ho⟩, Hs2, ⟨⟨He0, He1⟩, Hl⟩, ⟨Ht, Hat⟩, Hch, HO⟩ HQ
  rw [wp_bind]
  iapply (greet_run m K c _) $$ [Hl Ht Hat HO]
  · isplitr; · iexact Hk
    isplitl [Hl]; · iexact Hl
    isplitl [Ht]; · iexact Ht
    isplitl [Hat]; · iexact Hat
    iexact HO
  iintro ⟨Hz, Hg, HO⟩
  ihave Hr := (ready m c) $$ [Hch Hg]
  · isplitl [Hch]; · iexact Hch
    iexact Hg
  icases Hr with ⟨Hf, Hrc⟩
  ihave Hf := (Entails.of_eq (over_chains (fun ch => fresh (F := F) c ch))) $$ Hf
  icases Hf with ⟨Hf00, Hf01, Hf10, Hf11⟩
  rw [wp_bind]
  iapply (stageHalf_run m K c 0 (fun _ => 0) rfl rfl _) $$ [Hx He0 Hf00 Hf10 HO]
  · isplitr; · iexact Hk
    isplitl [Hx]; · iexact Hx
    isplitl [He0]; · iexact He0
    isplitl [Hf00 Hf10]
    · isplitl [Hf00]; · iexact Hf00
      iexact Hf10
    iexact HO
  iintro ⟨Hx, Hs0, ⟨Hf00, Hf10⟩, HO⟩
  rw [wp_bind]
  iapply (stageHalf_run m K c 1 (Function.update (Function.update (fun _ => 0) (false, 0) 1) (true, 0) 1) rfl rfl _) $$ [Hx He1 Hf01 Hf11 HO]
  · isplitr; · iexact Hk
    isplitl [Hx]; · iexact Hx
    isplitl [He1]; · iexact He1
    isplitl [Hf01 Hf11]
    · isplitl [Hf01]; · iexact Hf01
      iexact Hf11
    iexact HO
  iintro ⟨Hx, Hs1, ⟨Hf01, Hf11⟩, HO⟩
  rw [wp_bind]
  iapply (stageW_run m c _) $$ [Hw Hs2]
  · isplitl [Hw]; · iexact Hw
    iexact Hs2
  iintro ⟨Hw, Hc⟩
  rw [wp_bind]
  iapply (wp_smemLoadElt 𝒱₀ (c : Thread nD τ) none Set.univ (defs := defs₀ (F := F)) (m := sxM)
    (r := Rect.unit (s := S1) ![0] S1.size inb_S1_S1_0) (S := Finset.univ) (Finset.subset_univ _)) $$ Hsx
  iintro Hsx
  rw [wp_ret]
  imodintro
  rw [wp_bind]
  iapply (wp_smemLoadElt 𝒱₀ (c : Thread nD τ) none Set.univ (defs := defs₀ (F := F)) (m := swM)
    (r := Rect.unit (s := S1) ![0] S1.size inb_S1_S1_0) (S := Finset.univ) (Finset.subset_univ _)) $$ Hsw
  iintro Hsw
  rw [wp_ret]
  imodintro
  iapply (finish_run m K _ c Q) $$ [Hs0 Hs1 Hf00 Hf01 Hf10 Hf11 Hrc HO Hc Ho]
  · isplitr; · iexact Hk
    isplitl [Hs0 Hs1]
    · isplitl [Hs0]; · iexact Hs0
      iexact Hs1
    isplitl [Hf00 Hf01 Hf10 Hf11 Hrc]
    · iapply (zip_chains (fun ch => sending m c ch 0) (fun ch => receiving m c ch 0))
      isplitr [Hrc]
      rotate_left
      · iexact Hrc
      iapply (Entails.of_eq (over_chains (fun ch => sending m c ch 0)).symm)
      isplitl [Hf00]; · iexact Hf00
      isplitl [Hf01]; · iexact Hf01
      isplitl [Hf10]; · iexact Hf10
      iexact Hf11
    isplitl [HO]
    · rw [show owed c (fun _ => 1) = owed c (Function.update (Function.update (Function.update (Function.update (fun _ => 0) (false, 0) 1) (true, 0) 1) (false, 1) 1) (true, 1) 1)
        from congrArg (owed c) (by decide)]
      iexact HO
    isplitl [Hc]; · iexact Hc
    unfold outHeld
    iexists fo
    isplitr
    · ipureintro; exact fun b hb => absurd hb (Set.notMem_empty b)
    iexact Ho
  iintro ⟨Hs, Hv⟩
  iapply HQ
  isplitl [Hx Hw Hsx Hsw]
  · isplitl [Hx]; · iexact Hx
    isplitl [Hw]; · iexact Hw
    isplitl [Hsx]; · iexact Hsx
    iexact Hsw
  isplitl [Hz]; · iexact Hz
  isplitl [Hs]; · iexact Hs
  iexact Hv

end Cert.Fan

end
-- ==== Proof.Hold.lean ====
/- The buffers of slots, split and put together.

   Before the run a buffer is dealt out slot by slot (`buf_split`): the slots the neighbours fill, the two the device
   itself fills, and those that stay as they are. After it every slot is whole again (`chain_back`), and so are the
   buffers (`buf_join`). -/
module

public import proofs.«01_k».proof.Proof.Whole

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots in a buffer -/

/-- Different slots have no element in common. -/
theorem rect_apart {x x' : Fin 9 × Fin 2} (h : x ≠ x') :
    Disjoint (rect x.1 x.2).set (rect x'.1 x'.2).set := by
  unfold rect
  by_cases hj : x.1 = x'.1
  · have hs : x.2.val ≠ x'.2.val := fun e => h (Prod.ext hj (Fin.ext e))
    refine Rect.unit_disjoint 1 ?_
    show 128 * x.2.val + 128 ≤ 128 * x'.2.val ∨ 128 * x'.2.val + 128 ≤ 128 * x.2.val
    omega
  · have hj : x.1.val ≠ x'.1.val := fun e => hj (Fin.ext e)
    refine Rect.unit_disjoint 0 ?_
    show x.1.val + 1 ≤ x'.1.val ∨ x'.1.val + 1 ≤ x.1.val
    omega
/-- Every element is in some slot. -/
theorem rect_cover (i : S9x256x4096.Idx) : ∃ x : Fin 9 × Fin 2, i ∈ (rect x.1 x.2).set := by
  have h0 : (i 0).val < 9 := (i 0).isLt
  have h1 : (i 1).val < 256 := (i 1).isLt
  have h2 : (i 2).val < 4096 := (i 2).isLt
  refine ⟨(⟨(i 0).val, h0⟩, ⟨(i 1).val / 128, by omega⟩), Rect.mem_set_unit.mpr fun a => ?_⟩
  fin_cases a
  · show (i 0).val ≤ (i 0).val ∧ (i 0).val < (i 0).val + 1; omega
  · show 128 * ((i 1).val / 128) ≤ (i 1).val ∧ (i 1).val < 128 * ((i 1).val / 128) + 128; omega
  · show 0 ≤ (i 2).val ∧ (i 2).val < 0 + 4096; omega

theorem slot_apart (d : Bool) {x x' : Fin 9 × Fin 2} (h : x ≠ x') : Disjoint (slotV d x.1 x.2).set (slotV d x'.1 x'.2).set := by
  have e (x : Fin 9 × Fin 2) : (slotV d x.1 x.2).set = (rect x.1 x.2).set.map (bufM d).view.emb := View.set_slice _ _
  rw [e, e]
  exact (Finset.disjoint_map _).mpr (rect_apart h)
/-- A slot's elements, among the buffer's. -/
def slotSet (d : Bool) (x : Fin 9 × Fin 2) : Finset (slotV d 0 0).ty.Idx := (slotV d x.1 x.2).set
theorem slot_cover : ∀ d : Bool, (Finset.univ : Finset (Fin 9 × Fin 2)).biUnion (slotSet d) = Finset.univ
  | false => by
    refine Finset.eq_univ_iff_forall.mpr fun i => ?_
    obtain ⟨x, hx⟩ := rect_cover i
    exact Finset.mem_biUnion.mpr ⟨x, Finset.mem_univ _, (show i ∈ ((View.whole cc0_scratch0).slice (rect x.1 x.2)).set by rw [View.set_slice_whole]; exact hx)⟩
  | true => by
    refine Finset.eq_univ_iff_forall.mpr fun i => ?_
    obtain ⟨x, hx⟩ := rect_cover i
    exact Finset.mem_biUnion.mpr ⟨x, Finset.mem_univ _, (show i ∈ ((View.whole cc0_scratch1).slice (rect x.1 x.2)).set by rw [View.set_slice_whole]; exact hx)⟩

/-- A buffer of slots, with anything in it. -/
def bufHeld (c : Dev nD) (d : Bool) : sProp 𝕄 :=
  iprop(∃ f : Buf (Elt F) ((slotV d 0 0).loc (c : Thread nD τ)), ((slotV d 0 0).loc (c : Thread nD τ)) ↦{fullShare} f)

theorem buf_split (c : Dev nD) (d : Bool) : bufHeld c d ⊢ (bigSep Finset.univ fun x : Fin 9 × Fin 2 => slotE c d x.1 x.2 : sProp 𝕄) := by
  unfold bufHeld
  iintro ⟨%f, H⟩
  have e : (((slotV d 0 0).loc (c : Thread nD τ)) ↦{fullShare} f : sProp 𝕄)
      = bigSep Finset.univ fun x : Fin 9 × Fin 2 => slotPt c d x.1 x.2 fullShare f := by
    have h := pointsTo_biUnion (Ix := Unit) (Val := Elt F) (Name := ℕ) (U := UU) (Lvl := ℕ) (ℓ := (slotV d 0 0).loc (c : Thread nD τ)) (q := fullShare) (f := f)
      (Finset.univ : Finset (Fin 9 × Fin 2)) (slotSet d) (fun x _ x' _ h => slot_apart d h)
    rw [slot_cover] at h
    exact h
  have g : (bigSep Finset.univ fun x : Fin 9 × Fin 2 => slotPt (F := F) c d x.1 x.2 fullShare f) ⊢ (bigSep Finset.univ fun x : Fin 9 × Fin 2 => slotE c d x.1 x.2 : sProp 𝕄) :=
    bigSep_mono fun x _ => show slotPt c d x.1 x.2 fullShare f ⊢ slotE c d x.1 x.2 by
      unfold slotE; iintro H; iexists f; iexact H
  iapply ((Entails.of_eq e).trans g)
  iexact H

theorem buf_join (c : Dev nD) (d : Bool) : (bigSep Finset.univ fun x : Fin 9 × Fin 2 => slotE c d x.1 x.2 : sProp 𝕄) ⊢ bufHeld c d := by
  unfold slotE slotPt
  iintro H
  ihave H := (BI.bigSep_exists_pi Finset.univ (fun (x : Fin 9 × Fin 2) (f : Buf (Elt F) ((slotV d 0 0).loc (c : Thread nD τ))) =>
    (((slotV d 0 0).loc (c : Thread nD τ)) ↦[(slotV d x.1 x.2).set]{fullShare} f : sProp 𝕄))) $$ [H]
  · iexact H
  icases H with ⟨%fs, H⟩
  ihave H := (pointsTo_biUnion_join (Ix := Unit) (Val := Elt F) (Name := ℕ) (U := UU) (Lvl := ℕ) (ℓ := (slotV d 0 0).loc (c : Thread nD τ)) (q := fullShare)
      (Finset.univ : Finset (Fin 9 × Fin 2)) (slotSet d) fs (fs (0, 0)) (fun x _ x' _ h => slot_apart d h)) $$ [H]
  · iexact H
  icases H with ⟨%g, -, H⟩
  rw [slot_cover]
  unfold bufHeld
  iexists g
  iexact H

/-! ## Which slots are for what -/

/-- The slots of a chain that no hop of it lands in. -/
def spare (ch : Ch) : Finset (Fin 8) := Finset.univ \ ahead ch 0

/-- A direction's slots: the two at the front, those the neighbour fills, the rest. -/
theorem slots_parts (c : Dev nD) (d : Bool) :
    (bigSep Finset.univ fun x : Fin 9 × Fin 2 => slotE (F := F) c d x.1 x.2)
      = iprop((slotE c d 0 0 ∗ slotE c d 0 1) ∗ landing c d ∗ bigSep Finset.univ fun s : Fin 2 => bigSep (spare (d, s)) fun p => slotE c d p.succ s) := by
  have e1 : (bigSep Finset.univ fun x : Fin 9 × Fin 2 => slotE (F := F) c d x.1 x.2)
      = bigSep Finset.univ fun s : Fin 2 => bigSep Finset.univ fun j : Fin 9 => slotE c d j s := by
    rw [bigSep_univ_prod]
    exact Pipeline.bigSep_univ_comm _
  have e2 (s : Fin 2) : (bigSep Finset.univ fun j : Fin 9 => slotE (F := F) c d j s)
      = iprop(slotE c d 0 s ∗ (bigSep (ahead (d, s) 0) fun p => slotE c d p.succ s) ∗ bigSep (spare (d, s)) fun p => slotE c d p.succ s) := by
    rw [show (Finset.univ : Finset (Fin 9)) = insert 0 (Finset.univ.map (Fin.succEmb 8)) from by decide, bigSep_insert (by decide), bigSep_map]
    unfold spare
    exact congrArg (fun X => iprop(slotE c d 0 s ∗ X)) (bigSep_sdiff_split (Finset.subset_univ (ahead (d, s) 0)))
  rw [e1, bigSep_congr fun s _ => e2 s]
  refine (bigSep_sep _ _ _).trans ?_
  rw [over_halves fun s => slotE c d 0 s]
  exact congrArg (fun X => iprop((slotE c d 0 0 ∗ slotE c d 0 1) ∗ X)) (bigSep_sep _ _ _)

/-! ## A chain's slots after the run -/

/-- From a hop to the next. -/
def next : Fin 8 ↪ Fin 8 := ⟨fun p => p + 1, by intro a b; revert a b; decide⟩
/-- The hops of a chain but the last. -/
def inner (ch : Ch) : Finset (Fin 8) := (past (len ch)).filter fun p => p.val + 1 < len ch
theorem past_shift : ∀ ch : Ch, past (len ch) = insert 0 ((inner ch).map next) := by decide
theorem shift_ne : ∀ ch : Ch, (0 : Fin 8) ∉ (inner ch).map next := by decide
theorem shift_slot : ∀ (d : Bool) (p : Fin 8), p.val + 1 < 8 → srcBuf d (p + 1) = d ∧ (p + 1).castSucc = p.succ ∧ (p + 1).val ≠ 0 := by decide

/-- A source after the first is the slot the hop before landed in. -/
theorem lent_shift (c : Dev nD) (ch : Ch) (p : Fin 8) (h : p.val + 1 < 8) :
    lent m c ch (p + 1) = slotC m c ch.1 p.succ ch.2 fullShare.left := by
  obtain ⟨h1, h2, h3⟩ := shift_slot ch.1 p h
  unfold lent lentQ
  rw [h1, h2, if_neg h3]

theorem nothing (s : Finset (Fin 8)) : (bigSep s fun _ => iprop(emp) : sProp 𝕄) = iprop(emp) := bigSep_emp_const s
/-- A chain's sources and what stayed of its arrivals: its slots, whole, and its arrival cells, closed. -/
theorem chain_back (c : Dev nD) (ch : Ch) :
    iprop(bigSep (past (len ch)) (lent m c ch) ∗ bigSep (past (len ch)) (kept m c ch))
      ⊢ iprop(lent m c ch 0 ∗ (bigSep (past (len ch)) fun p => semVal (rcvC c ch p) 0) ∗ bigSep (ahead ch 0) fun p => slotE c ch.1 p.succ ch.2) := by
  have e1 : bigSep (past (len ch)) (lent m c ch)
      = iprop(lent m c ch 0 ∗ bigSep (inner ch) fun p => slotC m c ch.1 p.succ ch.2 fullShare.left) := by
    conv_lhs => rw [past_shift ch]
    rw [bigSep_insert (shift_ne ch), bigSep_map]
    refine congrArg (fun X => iprop(lent m c ch 0 ∗ X)) (bigSep_congr fun p hp => ?_)
    have := (Finset.mem_filter.mp hp).2
    exact lent_shift m c ch p (by have := len_le ch; omega)
  have e2 : bigSep (past (len ch)) (kept m c ch)
      = iprop((bigSep (past (len ch)) fun p => semVal (rcvC c ch p) 0) ∗ (bigSep (past (len ch)) fun p => slotC m c ch.1 p.succ ch.2 fullShare.right)
        ∗ bigSep ((past (len ch)).filter fun p => ¬ p.val + 1 < len ch) fun p => slotC m c ch.1 p.succ ch.2 fullShare.left) := by
    unfold kept
    refine (bigSep_sep _ _ _).trans (congrArg (fun X => iprop((bigSep (past (len ch)) fun p => semVal (rcvC c ch p) 0) ∗ X)) ?_)
    refine (bigSep_sep _ _ _).trans (congrArg (fun X => iprop((bigSep (past (len ch)) fun p => slotC m c ch.1 p.succ ch.2 fullShare.right) ∗ X)) ?_)
    rw [bigSep_filter_split (past (len ch)) fun p => p.val + 1 < len ch]
    rw [bigSep_congr (s := (past (len ch)).filter fun p => p.val + 1 < len ch) (Ψ := fun _ => iprop(emp)) fun p hp => if_pos (Finset.mem_filter.mp hp).2,
      nothing]
    refine (BI.equiv_iff.mp emp_sep).trans (bigSep_congr fun p hp => if_neg (Finset.mem_filter.mp hp).2)
  have j : (bigSep (past (len ch)) fun p => iprop(slotC m c ch.1 p.succ ch.2 fullShare.left ∗ slotC m c ch.1 p.succ ch.2 fullShare.right))
      ⊢ bigSep (past (len ch)) fun p => slotE c ch.1 p.succ ch.2 :=
    bigSep_mono fun p _ => (slot_join m c ch.1 p.succ ch.2).trans (show slotC m c ch.1 p.succ ch.2 fullShare ⊢ slotE c ch.1 p.succ ch.2 by
      unfold slotE slotC; iintro H; iexists _; iexact H)
  have z : iprop((bigSep (past (len ch)) fun p => slotC m c ch.1 p.succ ch.2 fullShare.left) ∗ bigSep (past (len ch)) fun p => slotC m c ch.1 p.succ ch.2 fullShare.right)
      ⊢ bigSep (past (len ch)) fun p => iprop(slotC m c ch.1 p.succ ch.2 fullShare.left ∗ slotC m c ch.1 p.succ ch.2 fullShare.right) :=
    Entails.of_eq (bigSep_sep _ _ _).symm
  have y : iprop((bigSep (inner ch) fun p => slotC m c ch.1 p.succ ch.2 fullShare.left)
        ∗ bigSep ((past (len ch)).filter fun p => ¬ p.val + 1 < len ch) fun p => slotC m c ch.1 p.succ ch.2 fullShare.left)
      ⊢ bigSep (past (len ch)) fun p => slotC m c ch.1 p.succ ch.2 fullShare.left :=
    Entails.of_eq (bigSep_filter_split (past (len ch)) fun p => p.val + 1 < len ch).symm
  rw [e1, e2, ahead_eq_past]
  iintro ⟨⟨H0, Hi⟩, Hz, Hr, Hl⟩
  isplitl [H0]; · iexact H0
  isplitl [Hz]; · iexact Hz
  iapply j
  iapply z
  isplitl [Hi Hl]
  · iapply y
    isplitl [Hi]; · iexact Hi
    iexact Hl
  iexact Hr

end Cert.Fan

end
-- ==== Proof.Device.lean ====
/- What a device is dealt at the launch and what it gives back.

   `deal` sorts what the launch deals a device into what its run takes; `settle` sorts what the run leaves into every
   semaphore at zero, every buffer whole and the result right in every row. -/
module

public import proofs.«01_k».proof.Proof.Hold

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Over a device's own cells: the chains' source cells and the hops' arrival cells. -/
theorem over_own (Φ : Own → sProp 𝕄) :
    bigSep Finset.univ Φ = iprop((bigSep Finset.univ fun ch => Φ (.inl ch)) ∗ bigSep Finset.univ fun ch => bigSep Finset.univ fun p => Φ (.inr (ch, p))) := by
  rw [bigSep_univ_sum]
  exact congrArg (fun X => iprop((bigSep Finset.univ fun ch => Φ (.inl ch)) ∗ X)) (bigSep_univ_prod fun x => Φ (.inr x))
/-- Over all of a device's cells: the barrier's and its own. -/
theorem over_cells (Φ : Cx → sProp 𝕄) : bigSep Finset.univ Φ = iprop(Φ none ∗ bigSep Finset.univ fun k => Φ (some k)) := by
  rw [show (Finset.univ : Finset Cx) = insert none (Finset.univ.map .some) from by
      ext k; rcases k with _ | k <;> simp,
    bigSep_insert (by simp), bigSep_map]
  rfl
/-- A chain's hops and the rest of the eight. -/
theorem over_hops (ch : Ch) (Φ : Fin 8 → sProp 𝕄) : bigSep Finset.univ Φ = iprop(bigSep (ahead ch 0) Φ ∗ bigSep (spare ch) Φ) :=
  bigSep_sdiff_split (Finset.subset_univ (ahead ch 0))

/-- The raises a device makes. -/
def payToks (c : Dev nD) : sProp 𝕄 :=
  iprop((dutyTok ER (barC (nb true c)) 0 false ∗ dutyTok ER (barC (nb false c)) 0 true)
    ∗ bigSep Finset.univ fun ch : Ch => bigSep Finset.univ fun p : Fin 8 =>
        iprop(dutyTok ER (sndC c ch) p.val false ∗ dutyTok ER (rcvC (nb ch.1 c) ch p) 0 false))
/-- Those, and a device's places at its own cells. -/
def dealt (c : Dev nD) : sProp 𝕄 := iprop(payToks c ∗ bigSep Finset.univ fun k : Cx => atPos ER (cell c k) 0 ∅ 0)
/-- The raises promised to a device. -/
def promised (c : Dev nD) : sProp 𝕄 :=
  iprop(cred (tallyAt (barC c) () 2) ∗ bigSep Finset.univ fun ch : Ch => bigSep (ahead ch 0) fun p => cred (tallyAt (rcvC c ch p) () N))
/-- Places at the arrival cells no hop uses. -/
def unused (c : Dev nD) (ch : Ch) : sProp 𝕄 := bigSep (spare ch) fun p => atPos ER (rcvC c ch p) 0 ∅ 0

theorem deal_chain (c : Dev nD) (ch : Ch) :
    iprop((bigSep Finset.univ fun p : Fin 8 => iprop(dutyTok ER (sndC c ch) p.val false ∗ dutyTok ER (rcvC (nb ch.1 c) ch p) 0 false))
        ∗ atPos ER (sndC c ch) 0 ∅ 0 ∗ (bigSep Finset.univ fun p : Fin 8 => atPos ER (rcvC c ch p) 0 ∅ 0)
        ∗ bigSep (ahead ch 0) fun p => cred (tallyAt (rcvC c ch p) () N))
      ⊢ (iprop(chainStart c ch ∗ unused c ch) : sProp 𝕄) := by
  rw [over_hops ch fun p : Fin 8 => iprop(dutyTok ER (sndC c ch) p.val false ∗ dutyTok ER (rcvC (nb ch.1 c) ch p) 0 false),
    over_hops ch fun p : Fin 8 => atPos ER (rcvC c ch p) 0 ∅ 0]
  have z : iprop((bigSep (ahead ch 0) fun p => atPos ER (rcvC c ch p) 0 ∅ 0) ∗ bigSep (ahead ch 0) fun p => cred (tallyAt (rcvC c ch p) () N))
      ⊢ (bigSep (ahead ch 0) (ticket (F := F) c ch) : sProp 𝕄) := Entails.of_eq (bigSep_sep _ _ _).symm
  unfold chainStart unused
  iintro ⟨⟨Ht, -⟩, Hs, ⟨Hr, Hu⟩, Hc⟩
  isplitr [Hu]
  rotate_left
  · iexact Hu
  isplitl [Ht]; · iexact Ht
  isplitl [Hs]; · iexact Hs
  iapply z
  isplitl [Hr]; · iexact Hr
  iexact Hc

/-- What the launch deals, sorted. -/
theorem deal (c : Dev nD) :
    iprop(dealt c ∗ promised c) ⊢ (iprop(barStart c ∗ (bigSep Finset.univ fun ch => chainStart c ch) ∗ bigSep Finset.univ fun ch => unused c ch) : sProp 𝕄) := by
  unfold dealt promised payToks barStart
  rw [over_cells, over_own]
  have all : (bigSep Finset.univ fun ch : Ch =>
        iprop((bigSep Finset.univ fun p : Fin 8 => iprop(dutyTok ER (sndC c ch) p.val false ∗ dutyTok ER (rcvC (nb ch.1 c) ch p) 0 false))
          ∗ atPos ER (sndC c ch) 0 ∅ 0 ∗ (bigSep Finset.univ fun p : Fin 8 => atPos ER (rcvC c ch p) 0 ∅ 0)
          ∗ bigSep (ahead ch 0) fun p => cred (tallyAt (rcvC c ch p) () N)))
      ⊢ (bigSep Finset.univ fun ch : Ch => iprop(chainStart c ch ∗ unused c ch) : sProp 𝕄) := bigSep_mono fun ch _ => deal_chain c ch
  iintro ⟨⟨⟨Hb, Ht⟩, Hab, Has, Har⟩, Hcb, Hc⟩
  isplitl [Hb Hab Hcb]
  · isplitl [Hb]; · iexact Hb
    isplitl [Hab]; · iexact Hab
    iexact Hcb
  iapply (unzip_chains (fun ch => chainStart (F := F) c ch) fun ch => unused c ch)
  iapply all
  iapply (zip_chains (fun ch => bigSep Finset.univ fun p : Fin 8 => iprop(dutyTok ER (sndC c ch) p.val false ∗ dutyTok ER (rcvC (nb ch.1 c) ch p) 0 false)) _)
  isplitl [Ht]; · iexact Ht
  iapply (zip_chains (fun ch => (atPos ER (sndC c ch) 0 ∅ 0 : sProp 𝕄)) _)
  isplitl [Has]; · iexact Has
  iapply (zip_chains (fun ch => (bigSep Finset.univ fun p : Fin 8 => atPos ER (rcvC c ch p) 0 ∅ 0 : sProp 𝕄)) _)
  isplitl [Har]; · iexact Har
  iexact Hc

/-! ## After the run -/

/-- The unused arrival cells, closed. -/
theorem close_spare (K : Dev nD × Cx → ℕ) (c : Dev nD) (ch : Ch) :
    iprop(know m K ∗ unused c ch) ⊢ iprop(|={Set.univ}=> bigSep (spare ch) fun p => semVal (rcvC c ch p) 0) := by
  unfold unused
  have h : iprop(know m K ∗ bigSep (spare ch) fun p => atPos ER (rcvC c ch p) 0 ∅ 0)
      ⊢ bigSep (spare ch) fun p => iprop(|={Set.univ}=> semVal (rcvC c ch p) 0) :=
    bigSep_with_persistent fun p hp => close_unused m K c ch p (by
      have h1 := (Finset.mem_sdiff.mp hp).2
      have h2 : ¬ (0 ≤ p.val ∧ p.val < len ch) := fun h => h1 (Finset.mem_filter.mpr ⟨Finset.mem_univ _, h⟩)
      omega)
  exact h.trans (bigSep_fupd _ _)

/-- A chain's part of what is left: its cells at zero, its slots whole. -/
def leftover (c : Dev nD) (ch : Ch) : sProp 𝕄 :=
  iprop(semVal (sndC c ch) 0 ∗ (bigSep Finset.univ fun p : Fin 8 => semVal (rcvC c ch p) 0) ∗ lent m c ch 0 ∗ bigSep (ahead ch 0) fun p => slotE c ch.1 p.succ ch.2)

theorem settle_chain (K : Dev nD × Cx → ℕ) (c : Dev nD) (ch : Ch) :
    iprop(know m K ∗ (freed m c ch ∗ receiving m c ch (len ch)) ∗ unused c ch) ⊢ iprop(|={Set.univ}=> leftover m c ch) := by
  unfold freed receiving leftover
  rw [over_hops ch fun p : Fin 8 => semVal (rcvC c ch p) 0]
  iintro ⟨#Hk, ⟨⟨Hat, Hl⟩, ⟨-, Hkp⟩⟩, Hu⟩
  imod (close_snd m K c ch) $$ [Hat] with Hz
  · isplitr; · iexact Hk
    iexact Hat
  imod (close_spare m K c ch) $$ [Hu] with Hzs
  · isplitr; · iexact Hk
    iexact Hu
  ihave Hb := (chain_back m c ch) $$ [Hl Hkp]
  · isplitl [Hl]; · iexact Hl
    iexact Hkp
  icases Hb with ⟨H0, Hzr, Hs⟩
  imodintro
  isplitl [Hz]; · iexact Hz
  isplitl [Hzr Hzs]
  · rw [ahead_eq_past]
    isplitl [Hzr]; · iexact Hzr
    iexact Hzs
  isplitl [H0]; · iexact H0
  iexact Hs

/-- The slots that stay as they are. -/
def idle (c : Dev nD) : sProp 𝕄 :=
  iprop((bigSep Finset.univ fun s : Fin 2 => bigSep (spare (false, s)) fun p => slotE c false p.succ s)
    ∗ (slotE c true 0 0 ∗ slotE c true 0 1) ∗ bigSep Finset.univ fun s : Fin 2 => bigSep (spare (true, s)) fun p => slotE (F := F) c true p.succ s)

/-- Slot 0, its parts back. -/
theorem slot0_back (c : Dev nD) (s : Fin 2) :
    iprop(lent m c (false, s) 0 ∗ lent m c (true, s) 0 ∗ slotC m c false 0 s fullShare.right) ⊢ slotE c false 0 s := by
  refine (slot0_join m c s).trans ?_
  unfold slotE slotC
  iintro H; iexists _; iexact H

/-- The result buffer, right in every row. -/
theorem out_all (sc : F .f32) (c : Dev nD) :
    outHeld m sc c (covered c len) ⊢ iprop(((c : Thread nD τ).loc cc0_stg4_0) ↦{fullShare} (outAt m sc c)) := by
  unfold outHeld
  iintro ⟨%f, %hf, H⟩
  rw [show f = outAt m sc c from funext fun i =>
    hf (ownerOf i, halfOf i) (covered_all c _) i (by
      refine Rect.mem_set_unit.mpr fun a => ?_
      have h0 := row_lt i
      have h1 : (i 1).val < 128 := (i 1).isLt
      fin_cases a
      · show 256 * ((i 0).val / 256) + 128 * ((i 0).val / 128 % 2) ≤ (i 0).val
          ∧ (i 0).val < 256 * ((i 0).val / 256) + 128 * ((i 0).val / 128 % 2) + 128
        omega
      · show 0 ≤ (i 1).val ∧ (i 1).val < 0 + 128
        omega)]
  iexact H

/-- What a device ends with, sorted. -/
def settled (c : Dev nD) : sProp 𝕄 :=
  iprop(stagedIn m c ∗ (((c : Thread nD τ).loc cc0_stg4_0) ↦{fullShare} (outAt m (scale m c) c)) ∗ (bufHeld c false ∗ bufHeld c true ∗ colsHeld m c)
    ∗ semVal (barC c) 0 ∗ (bigSep Finset.univ fun k : Own => semVal (cell c (some k)) 0) ∗ owing c 0)

theorem settle (K : Dev nD × Cx → ℕ) (c : Dev nD) :
    iprop(know m K ∗ after m c ∗ (bigSep Finset.univ fun ch => unused c ch) ∗ idle c) ⊢ iprop(|={Set.univ}=> settled m c) := by
  unfold after over idle settled
  rw [owed_none c (fun ch => len ch + 1) (fun ch => by omega), over_own]
  have all : iprop(know m K ∗ bigSep Finset.univ fun ch => iprop((freed m c ch ∗ receiving m c ch (len ch)) ∗ unused c ch))
      ⊢ bigSep Finset.univ fun ch => iprop(|={Set.univ}=> leftover m c ch) :=
    bigSep_with_persistent fun ch _ => settle_chain m K c ch
  have all := all.trans (bigSep_fupd _ _)
  unfold leftover at all
  iintro ⟨#Hk, ⟨Hin, Hz, ⟨H0, H1⟩, Hch, HO, Hcols, Ho⟩, Hu, ⟨Hi, Hi0, Hi'⟩⟩
  imod all $$ [Hch Hu] with Hall
  · isplitr; · iexact Hk
    iapply (zip_chains (fun ch => iprop(freed m c ch ∗ receiving m c ch (len ch))) fun ch => unused c ch)
    isplitl [Hch]; · iexact Hch
    iexact Hu
  imodintro
  ihave Ha := (unzip_chains (fun ch => (semVal (sndC c ch) 0 : sProp 𝕄)) _) $$ Hall
  icases Ha with ⟨Hzs, Hall⟩
  ihave Ha := (unzip_chains (fun ch => (bigSep Finset.univ fun p : Fin 8 => semVal (rcvC c ch p) 0 : sProp 𝕄)) _) $$ Hall
  icases Ha with ⟨Hzr, Hall⟩
  ihave Ha := (unzip_chains (fun ch => lent m c ch 0) _) $$ Hall
  icases Ha with ⟨Hl, Hall⟩
  ihave Hl := (Entails.of_eq (over_chains fun ch => lent m c ch 0)) $$ Hl
  icases Hl with ⟨Hl00, Hl01, Hl10, Hl11⟩
  ihave Hs := (Entails.of_eq (over_chains fun ch => bigSep (ahead ch 0) fun p => slotE (F := F) c ch.1 p.succ ch.2)) $$ Hall
  icases Hs with ⟨Hs00, Hs01, Hs10, Hs11⟩
  isplitl [Hin]; · iexact Hin
  isplitl [Ho]; · iapply (out_all m (scale m c) c); iexact Ho
  isplitl [H0 H1 Hcols Hi Hi0 Hi' Hl00 Hl01 Hl10 Hl11 Hs00 Hs01 Hs10 Hs11]
  · isplitl [H0 H1 Hi Hl00 Hl01 Hl10 Hl11 Hs00 Hs01]
    · iapply (buf_join c false)
      rw [slots_parts]
      isplitl [H0 H1 Hl00 Hl01 Hl10 Hl11]
      · isplitl [H0 Hl00 Hl10]
        · iapply (slot0_back m c 0)
          isplitl [Hl00]; · iexact Hl00
          isplitl [Hl10]; · iexact Hl10
          iexact H0
        iapply (slot0_back m c 1)
        isplitl [Hl01]; · iexact Hl01
        isplitl [Hl11]; · iexact Hl11
        iexact H1
      isplitl [Hs00 Hs01]
      · unfold landing
        rw [over_halves]
        isplitl [Hs00]; · iexact Hs00
        iexact Hs01
      iexact Hi
    isplitr [Hcols]
    rotate_left
    · iexact Hcols
    iapply (buf_join c true)
    rw [slots_parts]
    isplitl [Hi0]; · iexact Hi0
    isplitl [Hs10 Hs11]
    · unfold landing
      rw [over_halves]
      isplitl [Hs10]; · iexact Hs10
      iexact Hs11
    iexact Hi'
  isplitl [Hz]; · iexact Hz
  isplitl [Hzs Hzr]
  · isplitl [Hzs]; · iexact Hzs
    iexact Hzr
  iexact HO

end Cert.Fan

end
-- ==== Proof.Region.lean ====
/- A device's region: its staged windows, its body, and that the body runs between them.

   The region stages rows, columns and the two scales, runs the body once, and writes the result back. -/
module

public import proofs.«01_k».proof.Proof.Device
public import proofs.«01_k».proof.Proof.Gen.KernelIdeal.Points

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What a device starts with besides its buffers, the cells' names chosen. -/
def start (c : Dev nD) : sProp 𝕄 := iprop((∃ K, know m K ∗ dealt c) ∗ promised c)

/-- Before the body: that, and the three scratch buffers. -/
def pre (c : Dev nD) : sProp 𝕄 :=
  iprop(start m c ∗ bufHeld c false ∗ bufHeld c true
    ∗ ∃ f : Buf (Elt F) ((c : Thread nD τ).loc cc0_scratch2), ((c : Thread nD τ).loc cc0_scratch2) ↦{fullShare} f)
/-- After it: the scratch buffers again, and every cell of the device at zero. -/
def post (c : Dev nD) : sProp 𝕄 :=
  iprop((bufHeld c false ∗ bufHeld c true ∗ colsHeld m c) ∗ semVal (barC c) 0 ∗ bigSep Finset.univ fun k : Own => semVal (cell c (some k)) 0)

/-- The region's one point: the inputs stay, the result is the output window's. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => win m c
    | ⟨2, _⟩ => sxin m c
    | ⟨3, _⟩ => swin m c
    | ⟨4, _⟩ => outAt m (scale m c) c
  Φ t := match t with
    | ⟨0, _⟩ => pre m c
    | ⟨_ + 1, _⟩ => post m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer holding `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the region holds as the body begins. -/
def bodyPre (c : Dev nD) : sProp 𝕄 :=
  iprop(pre m c ∗ (dats m 0 c).owesAt () t0_0.castSucc
    ∗ (∃ d, holds c cc0_stg0_0 ((dats m 0 c).before (0 : Fin 5) t0_0 d)) ∗ (∃ d, holds c cc0_stg1_0 ((dats m 0 c).before (1 : Fin 5) t0_0 d))
    ∗ (∃ d, holds c cc0_stg2_0 ((dats m 0 c).before (2 : Fin 5) t0_0 d)) ∗ (∃ d, holds c cc0_stg3_0 ((dats m 0 c).before (3 : Fin 5) t0_0 d))
    ∗ (∃ d, holds c cc0_stg4_0 ((dats m 0 c).before (4 : Fin 5) t0_0 d)))
/-- What it is to hold as the body ends. -/
def bodyPost (c : Dev nD) : sProp 𝕄 :=
  iprop(post m c ∗ (dats m 0 c).owesAt () t0_0.succ
    ∗ holds c cc0_stg0_0 (xin m c) ∗ holds c cc0_stg1_0 (win m c) ∗ holds c cc0_stg2_0 (sxin m c) ∗ holds c cc0_stg3_0 (swin m c)
    ∗ holds c cc0_stg4_0 (outAt m (scale m c) c))

theorem owes_in (c : Dev nD) : (dats m 0 c).owesAt () t0_0.castSucc ⊢ (owing c (O₀ c) : sProp 𝕄) := by
  unfold Dat.owesAt Pipeline.owesWithin owing
  rw [show (dats m 0 c).owed t0_0.castSucc = O₀ c from rfl]
  iintro ⟨%W, -, H⟩
  iexists W; iexact H
theorem owes_out (c : Dev nD) : owing c 0 ⊢ ((dats m 0 c).owesAt () t0_0.succ : sProp 𝕄) := by
  unfold Dat.owesAt Pipeline.owesWithin owing
  rw [show (dats m 0 c).owed t0_0.succ = 0 from rfl]
  iintro ⟨%W, H⟩
  iexists W
  isplitr; · ipureintro; exact fun _ _ => Or.inl trivial
  iexact H

theorem before_0 (c : Dev nD) (d) : (dats m 0 c).before (0 : Fin 5) t0_0 d = xin m c := by
  unfold Dat.before; rw [if_pos (fetch0_0 t0_0)]; rfl
theorem before_1 (c : Dev nD) (d) : (dats m 0 c).before (1 : Fin 5) t0_0 d = win m c := by
  unfold Dat.before; rw [if_pos (fetch0_1 t0_0)]; rfl
theorem before_2 (c : Dev nD) (d) : (dats m 0 c).before (2 : Fin 5) t0_0 d = sxin m c := by
  unfold Dat.before; rw [if_pos (fetch0_2 t0_0)]; rfl
theorem before_3 (c : Dev nD) (d) : (dats m 0 c).before (3 : Fin 5) t0_0 d = swin m c := by
  unfold Dat.before; rw [if_pos (fetch0_3 t0_0)]; rfl

/-- What the region holds, sorted: what the run takes, and what it leaves alone. -/
theorem body_in (c : Dev nD) :
    bodyPre m c ⊢ iprop(∃ K, know m K ∗ before m c ∗ (bigSep Finset.univ fun ch => unused c ch) ∗ idle c) := by
  unfold bodyPre pre start before stagedIn idle rowsHeld
  iintro ⟨⟨⟨⟨%K, Hk, Hd⟩, Hp⟩, Hb, Hb', Hs2⟩, HO, ⟨%d0, %f0, %h0, H0⟩, ⟨%d1, %f1, %h1, H1⟩, ⟨%d2, %f2, %h2, H2⟩, ⟨%d3, %f3, %h3, H3⟩, ⟨%d4, %f4, %h4, H4⟩⟩
  have h0 := h0.trans (before_0 m c d0)
  have h1 := h1.trans (before_1 m c d1)
  have h2 := h2.trans (before_2 m c d2)
  have h3 := h3.trans (before_3 m c d3)
  subst h0 h1 h2 h3
  ihave Hd := (deal c) $$ [Hd Hp]
  · isplitl [Hd]; · iexact Hd
    iexact Hp
  icases Hd with ⟨Hbar, Hch, Hu⟩
  ihave Hb := ((buf_split c false).trans (Entails.of_eq (slots_parts c false))) $$ Hb
  ihave Hb' := ((buf_split c true).trans (Entails.of_eq (slots_parts c true))) $$ Hb'
  icases Hb with ⟨Hz, Hl, Hi⟩
  icases Hb' with ⟨Hz', Hl', Hi'⟩
  ihave HO := (owes_in m c) $$ HO
  iexists K
  isplitl [Hk]; · iexact Hk
  isplitr [Hu Hi Hz' Hi']
  · isplitl [H0 H1 H2 H3]
    · isplitl [H0]; · iexact H0
      isplitl [H1]; · iexact H1
      isplitl [H2]; · iexact H2
      iexact H3
    isplitl [H4]; · iexists f4; iexact H4
    isplitl [Hs2]; · iexact Hs2
    isplitl [Hz Hl Hl']
    · isplitl [Hz]; · iexact Hz
      isplitl [Hl]; · iexact Hl
      iexact Hl'
    isplitl [Hbar]; · iexact Hbar
    isplitl [Hch]; · iexact Hch
    iexact HO
  isplitl [Hu]; · iexact Hu
  isplitl [Hi]; · iexact Hi
  isplitl [Hz']; · iexact Hz'
  iexact Hi'

/-- What a device ends with is what the region is to hold. -/
theorem body_out (c : Dev nD) : settled m c ⊢ bodyPost m c := by
  unfold settled bodyPost post stagedIn rowsHeld
  iintro ⟨⟨H0, H1, H2, H3⟩, H4, Hb, Hz, Hzs, HO⟩
  isplitl [Hb Hz Hzs]
  · isplitl [Hb]; · iexact Hb
    isplitl [Hz]; · iexact Hz
    iexact Hzs
  isplitl [HO]; · iapply (owes_out m c); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-- The body, from what the region holds to what it is to hold. -/
theorem body_run (c : Dev nD) : bodyPre m c ⊢ runs c clean fun _ => bodyPost m c := by
  refine (body_in m c).trans (BIBase.Entails.trans ?_ (wp_fupd _ _ _ _ _))
  iintro ⟨%K, #Hk, Hb, Hu, Hi⟩
  iapply (whole_run m K c _) $$ [Hb]
  · isplitr; · iexact Hk
    iexact Hb
  iintro Ha
  imod (settle m K c) $$ [Ha Hu Hi] with Hs
  · isplitr; · iexact Hk
    isplitl [Ha]; · iexact Ha
    isplitl [Hu]; · iexact Hu
    iexact Hi
  imodintro
  iapply (body_out m c)
  iexact Hs

theorem over_windows (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem phi_first (c : Dev nD) : (dats m 0 c).Φ t0_0.castSucc = pre m c := rfl
theorem phi_last (c : Dev nD) : (dats m 0 c).Φ t0_0.succ = post m c := rfl
theorem after_0 (c : Dev nD) : (dats m 0 c).after (0 : Fin 5) t0_0 = xin m c := rfl
theorem after_1 (c : Dev nD) : (dats m 0 c).after (1 : Fin 5) t0_0 = win m c := rfl
theorem after_2 (c : Dev nD) : (dats m 0 c).after (2 : Fin 5) t0_0 = sxin m c := rfl
theorem after_3 (c : Dev nD) : (dats m 0 c).after (3 : Fin 5) t0_0 = swin m c := rfl
theorem after_4 (c : Dev nD) : (dats m 0 c).after (4 : Fin 5) t0_0 = outAt m (scale m c) c := rfl

/-- The body the region runs is the one this proof runs. -/
theorem body_is : defs₀ (F := F) .tc cfg0.body (cfg0.bodyArgs t0_0 (cfg0.slots t0_0)) = clean := body_eq

/-- The body does what the region asks of it. -/
theorem body_obligation (c : Dev nD) : BodyObligation (dats (F := F) m 0 c) (defs₀ (F := F)) 𝒱₀ () Set.univ := fun t => by
  rw [fin_N0 t]
  rw [over_windows, over_windows]
  rw [body_is]
  simp only [owns_whole_eq]
  rw [phi_first, phi_last, after_0, after_1, after_2, after_3, after_4]
  refine BIBase.Entails.trans (Q := bodyPre m c) BIBase.Entails.refl ?_
  have h := body_run m c
  unfold runs bodyPost at h
  convert h using 2

end Cert.Fan

end
-- ==== Proof.Launch.lean ====
/- The launch: what it deals, and the run of the whole program on all devices.

   From any memory with every counter at zero, every fair execution ends, with every array of the region at its
   computed contents and every counter at zero again. Nothing here depends on which float values are computed with. -/
module

public import proofs.«01_k».proof.Proof.Region
public import Idealize.ShloMosaic.Lib.Pipeline.CollectiveSegs

@[expose] public section

set_option maxRecDepth 8192

noncomputable section

namespace Cert.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)
variable (ρ : Dev nD → PrngReg)

/-! ## What the launch mints -/

theorem ownSemFacts : Pipeline.OwnSemFacts cfg0.spec osem := by decide +kernel

theorem share_eq (c : Dev nD) (w : Fin cfg0.W) : (dats m 0 c).share w = fullShare := by unfold Dat.share; split <;> rfl

/-- Every cell of every device. -/
theorem cell_inj : Function.Injective (fun x : Dev nD × Cx => cell x.1 x.2) := by
  rintro ⟨c, k⟩ ⟨c', k'⟩ h
  have h1 : c = c' := congrArg (fun g : GSem nD τ sig => g.1.1) h
  have h2 : k = k' := csem_inj _ _ (congrArg Prod.snd h)
  rw [h1, h2]
def allCells : Finset (GSem nD τ sig) := Finset.univ.map ⟨_, cell_inj⟩

/-- The raises of a device's cells: the barrier's two, a source cell's one for each hop, an arrival cell's one. -/
abbrev Raise : Type := Bool ⊕ (Ch × Fin 8) ⊕ (Ch × Fin 8)
def raiseOf (c : Dev nD) : Raise → GSem nD τ sig × ℕ × Bool
  | .inl b => (barC c, 0, b)
  | .inr (.inl x) => (sndC c x.1, x.2.val, false)
  | .inr (.inr x) => (rcvC c x.1 x.2, 0, false)
/-- The cell a raise is of. -/
def cellOfRaise : Raise → Cx
  | .inl _ => none
  | .inr (.inl x) => some (.inl x.1)
  | .inr (.inr x) => some (.inr x)
theorem raiseOf_cell (c : Dev nD) (j : Raise) : (raiseOf c j).1 = cell c (cellOfRaise j) := by
  rcases j with b | x | x <;> rfl
theorem raise_inj : Function.Injective (fun x : Dev nD × Raise => raiseOf x.1 x.2) := by
  rintro ⟨c, j⟩ ⟨c', j'⟩ h
  have h : raiseOf c j = raiseOf c' j' := h
  have hg : cell c (cellOfRaise j) = cell c' (cellOfRaise j') := by rw [← raiseOf_cell, ← raiseOf_cell, h]
  have hc : (c, cellOfRaise j) = (c', cellOfRaise j') := cell_inj (a₁ := (c, cellOfRaise j)) (a₂ := (c', cellOfRaise j')) hg
  have h1 : c = c' := congrArg Prod.fst hc
  have h2 : cellOfRaise j = cellOfRaise j' := congrArg Prod.snd hc
  subst h1
  have h3 : (raiseOf c j).2 = (raiseOf c j').2 := congrArg Prod.snd h
  rcases j with b | ⟨ch, p⟩ | ⟨ch, p⟩ <;> rcases j' with b' | ⟨ch', p'⟩ | ⟨ch', p'⟩ <;> try (cases h2; done)
  · have : b = b' := congrArg Prod.snd h3
    rw [this]
  · have hp : p.val = p'.val := congrArg Prod.fst h3
    have hch : ch = ch' := by injection h2 with h2; injection h2
    rw [hch, Fin.ext hp]
  · have hx : (ch, p) = (ch', p') := by injection h2 with h2; injection h2
    rw [hx]
def allRaises : Finset (GSem nD τ sig × ℕ × Bool) := Finset.univ.map ⟨_, raise_inj⟩

def u₀ : UU := (initOf (Pipeline.cells cfgs cellOf_inj) (Pipeline.launchToks cfgs cellOf_inj), initOf allCells allRaises)

/-- The raises of a device's own cells. -/
def toks (c : Dev nD) : sProp 𝕄 :=
  iprop((dutyTok ER (barC c) 0 false ∗ dutyTok ER (barC c) 0 true)
    ∗ bigSep Finset.univ fun ch : Ch => bigSep Finset.univ fun p : Fin 8 => iprop(dutyTok ER (sndC c ch) p.val false ∗ dutyTok ER (rcvC c ch p) 0 false))

/-- What the launch deals a device: its cells' rounds, its places there, its cells' raises. -/
def G (c : Dev nD) : sProp 𝕄 :=
  iprop((bigSep Finset.univ fun k : Cx => roundState ER (Rd m) (cell c k) 0)
    ∗ (bigSep Finset.univ fun k : Cx => iprop(atPos ER (cell c k) 0 ∅ 0 ∗ reached ER (cell c k) 0)) ∗ toks c)
/-- What the devices make of it together. -/
def G' (c : Dev nD) : sProp 𝕄 := iprop(∃ K, cells m K ∗ dealt c)

theorem over_pair (Φ : Bool → sProp 𝕄) : bigSep Finset.univ Φ = iprop(Φ false ∗ Φ true) :=
  bigSep_univ_eq_bigSepL [false, true] (by decide) (by decide) Φ

theorem over_raises (c : Dev nD) :
    (bigSep Finset.univ fun j : Raise => (dutyTok ER (raiseOf c j).1 (raiseOf c j).2.1 (raiseOf c j).2.2 : sProp 𝕄)) = toks c := by
  rw [bigSep_univ_sum, bigSep_univ_sum, over_pair,
    bigSep_univ_prod (fun x : Ch × Fin 8 => (dutyTok ER (raiseOf c (.inr (.inl x))).1 (raiseOf c (.inr (.inl x))).2.1 (raiseOf c (.inr (.inl x))).2.2 : sProp 𝕄)),
    bigSep_univ_prod (fun x : Ch × Fin 8 => (dutyTok ER (raiseOf c (.inr (.inr x))).1 (raiseOf c (.inr (.inr x))).2.1 (raiseOf c (.inr (.inr x))).2.2 : sProp 𝕄))]
  unfold toks
  simp only [bigSep_sep']
  rfl

theorem fund_all : BI.own (ER (initOf allCells allRaises)) ⊢ (|==> bigSep Finset.univ (G m) : sProp 𝕄) := by
  have hX (Φ : GSem nD τ sig → sProp 𝕄) : bigSep allCells Φ = bigSep Finset.univ fun c : Dev nD => bigSep Finset.univ fun k : Cx => Φ (cell c k) := by
    unfold allCells; rw [bigSep_map, bigSep_univ_prod]; rfl
  have hT : bigSep allRaises (fun x => (dutyTok ER x.1 x.2.1 x.2.2 : sProp 𝕄)) = bigSep Finset.univ fun c : Dev nD => toks c := by
    unfold allRaises; rw [bigSep_map, bigSep_univ_prod]
    exact bigSep_congr fun c _ => over_raises c
  iintro HX
  imod (Rounds.fund ER (Rd m) allCells allRaises) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells set up -/

/-- The barrier's is the one cell that outlives a region. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (cell c k) 0 : sProp 𝕄) := by
  rw [unscopedSems0_eq, over_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cx => iprop(∃ κ : ℕ, cellInv ER (Rd m) κ (cell c k)))
          ∗ (bigSep Finset.univ fun k : Cx => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (cell c k) 0) ∗ bigSep Finset.univ fun k : Cx => roundState ER (Rd m) (cell c k) 0)
      ⊢ (|={Set.univ}=> bigSep Finset.univ fun k : Cx => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Raises of one cell a device, dealt one device on: each device has its neighbour's. -/
theorem pass_on (d : Bool) (Φ : Dev nD → sProp 𝕄) : bigSep Finset.univ Φ = bigSep Finset.univ fun c => Φ (nb d c) :=
  bigSep_univ_equiv (around d) Φ

/-- The raises dealt to the devices that make them. -/
theorem toks_around : (bigSep Finset.univ fun c : Dev nD => (toks c : sProp 𝕄)) ⊢ bigSep Finset.univ fun c : Dev nD => payToks c := by
  have arr : (bigSep Finset.univ fun c : Dev nD => bigSep Finset.univ fun ch : Ch => bigSep Finset.univ fun p : Fin 8 => (dutyTok ER (rcvC c ch p) 0 false : sProp 𝕄))
      = bigSep Finset.univ fun c : Dev nD => bigSep Finset.univ fun ch : Ch => bigSep Finset.univ fun p : Fin 8 => dutyTok ER (rcvC (nb ch.1 c) ch p) 0 false := by
    rw [Pipeline.bigSep_univ_comm, Pipeline.bigSep_univ_comm (fun (c : Dev nD) (ch : Ch) => bigSep Finset.univ fun p : Fin 8 => (dutyTok ER (rcvC (nb ch.1 c) ch p) 0 false : sProp 𝕄))]
    exact bigSep_congr fun ch _ => pass_on ch.1 fun c => bigSep Finset.univ fun p : Fin 8 => dutyTok ER (rcvC c ch p) 0 false
  unfold toks payToks
  simp only [bigSep_sep']
  rw [pass_on true (fun c : Dev nD => (dutyTok ER (barC c) 0 false : sProp 𝕄)), pass_on false (fun c : Dev nD => (dutyTok ER (barC c) 0 true : sProp 𝕄)), arr]

theorem glob_intro (K : Dev nD × Cx → ℕ) (c : Dev nD) : iprop(cells m K ∗ dealt c) ⊢ G' m c := by
  unfold G'
  iintro H; iexists K; iexact H

theorem regroup :
    (bigSep Finset.univ fun c : Dev nD => iprop((bigSep Finset.univ fun k : Cx => iprop(∃ κ : ℕ, cellInv ER (Rd m) κ (cell c k)))
          ∗ (bigSep Finset.univ fun k : Cx => iprop(atPos ER (cell c k) 0 ∅ 0 ∗ reached ER (cell c k) 0)) ∗ toks c) : sProp 𝕄)
      ⊢ bigSep Finset.univ (G' m) := by
  rw [bigSep_sep', bigSep_sep', ← bigSep_univ_prod (fun x : Dev nD × Cx => iprop(∃ κ : ℕ, cellInv ER (Rd m) κ (cell x.1 x.2))),
    bigSep_congr (s := Finset.univ) (fun (c : Dev nD) _ => bigSep_sep' Finset.univ (fun k : Cx => (atPos ER (cell c k) 0 ∅ 0 : sProp 𝕄)) (fun k => reached ER (cell c k) 0)),
    bigSep_sep', ← bigSep_univ_prod (fun x : Dev nD × Cx => (reached ER (cell x.1 x.2) 0 : sProp 𝕄))]
  iintro ⟨HI, ⟨Hat, #HR⟩, Htok⟩
  ihave HK := (BI.bigSep_exists_pi Finset.univ (fun (x : Dev nD × Cx) (κ : ℕ) => (cellInv ER (Rd m) κ (cell x.1 x.2) : sProp 𝕄))) $$ HI
  icases HK with ⟨%K, #HI⟩
  ihave Htk := (toks_around (F := F)) $$ Htok
  iapply (bigSep_with_persistent (R := cells m K) fun c _ => glob_intro m K c)
  isplitr
  · unfold cells; isplitl; · iexact HI
    iexact HR
  · unfold dealt
    iapply (Entails.of_eq (bigSep_sep' Finset.univ payToks (fun c : Dev nD => bigSep Finset.univ fun k : Cx => (atPos ER (cell c k) 0 ∅ 0 : sProp 𝕄))).symm)
    isplitl [Htk]; · iexact Htk
    iexact Hat

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is promised -/

theorem cred_from (d : Bool) (sm : SemLoc sig) (n : ℕ) (c : Dev nD) :
    (Pipeline.launchCred (fun d' : Dev nD => tallyAt (((nb d d' : Dev nD) : Thread nD τ), sm) () n) c : sProp 𝕄) ⊢ cred (tallyAt ((c : Thread nD τ), sm) () n) :=
  Pipeline.launchCred_tallyAt sm (nb d) (nb (!d)) (nb_nb d) (fun c => (around d).left_inv c) () n c

theorem cred_hops (c : Dev nD) :
    (Pipeline.launchCred (fun d' : Dev nD => owed d' fun _ => 0) c : sProp 𝕄)
      ⊢ bigSep Finset.univ fun ch : Ch => bigSep (ahead ch 0) fun p => cred (tallyAt (rcvC c ch p) () N) := by
  unfold owed
  rw [Pipeline.launchCred_sum]
  refine bigSep_mono fun ch _ => ?_
  rw [Pipeline.launchCred_sum]
  exact bigSep_mono fun p _ => cred_from ch.1 _ N c

theorem creds (c : Dev nD) : (Pipeline.launchCred O₀ c : sProp 𝕄) ⊢ promised c := by
  rw [show O₀ = fun d' : Dev nD => (fun d' : Dev nD => (fun d' : Dev nD => owed d' fun _ => 0) d' + (fun d' => tallyAt (barC (nb false d')) () 1) d') d'
      + (fun d' => tallyAt (barC (nb true d')) () 1) d' from rfl,
    Pipeline.launchCred_add, Pipeline.launchCred_add]
  unfold promised
  rw [show (tallyAt (barC c) () 2 : CellTallies nD τ sig Unit) = tallyAt (barC c) () 1 + tallyAt (barC c) () 1 from (tallyAt_add (barC c) () 1 1).symm]
  iintro ⟨⟨Hh, Hf⟩, Ht⟩
  isplitl [Hf Ht]
  · iapply (cred_add _ _).2
    isplitl [Hf]
    · iapply (cred_from (F := F) false (.reg barS) 1 c); iexact Hf
    iapply (cred_from (F := F) true (.reg barS) 1 c); iexact Ht
  iapply (cred_hops c); iexact Hh

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' know
  iintro ⟨-, Hlev, Hcr, -, ⟨%K, Hc, Hd⟩⟩
  ihave Hp := (creds (F := F) c) $$ Hcr
  imodintro
  isplitl
  · isplitr [Hp]
    · iexists K
      isplitl [Hc Hlev]
      · isplitl [Hc]; · iexact Hc
        iexact Hlev
      iexact Hd
    iexact Hp
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = pre m c from rfl, scopedRest0_eq]
  unfold pre bufHeld
  iintro ⟨Hs, -, H0, H1, H2⟩
  isplitl [Hs]; · iexact Hs
  isplitl [H0]; · iexact H0
  isplitl [H1]; · iexact H1
  iexact H2

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = post m c from rfl, scopedRest0_eq, unscopedSems0_eq]
  unfold post bufHeld Pipeline.ownSems0 colsHeld
  iintro ⟨⟨H0, H1, H2⟩, Hz, Hzs⟩
  isplitl [Hz]; · iexact Hz
  isplitl [Hzs]; · iexact Hzs
  isplitl [H0]; · iexact H0
  isplitl [H1]; · iexact H1
  iexists _; iexact H2

theorem staging_apart : ∀ (w : Fin cfg0.W) (s) (k : Cx), ¬ csem k = .dma ((cfg0.win w).sem s) := by decide +kernel
theorem waits (c : Dev nD) : (levAts L lv : sProp 𝕄) ⊢ Pipeline.cellsWaits cfgs (dats m) () 0 c :=
  Pipeline.cellsWaits_intro cfgs (dats m) () 0 c fun w s t =>
    mayWait_stage c _ (by
      unfold what
      exact dif_neg fun ⟨k, hk⟩ => staging_apart w s k hk) _ (by
      rcases t with ⟨_ | _, ht⟩
      · exact Or.inl rfl
      · exact Or.inr rfl)

/-- An array of the region at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 65536 in
/-- The whole program on all sixteen devices: every fair execution from a memory with counters at zero ends with the
    arrays at their computed contents and all counters at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array at the end is as it was. -/
theorem finalA_in (c : Dev nD) (w : Fin cfg0.W) (h : (cfg0.win w).isOut = false) : finalA m c w = m ((cfg0.win w).arr.view.loc (c : Thread nD τ)) :=
  (dats (F := F) m 0 c).arrAt_in w h _

/-- The frame: the program ends, its arguments and counters as they were, whatever the float values are. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c (0 : Fin 5)).trans (finalA_in m c (0 : Fin 5) rfl), (h.1 c (1 : Fin 5)).trans (finalA_in m c (1 : Fin 5) rfl),
    (h.1 c (2 : Fin 5)).trans (finalA_in m c (2 : Fin 5) rfl), (h.1 c (3 : Fin 5)).trans (finalA_in m c (3 : Fin 5) rfl)⟩, h.2⟩) (run_main m ρ)

end Cert.Fan

end
-- ==== Proof.Same.lean ====
/- The kernel and the program read over the ideal values have one text.

   Their bodies are equal as they stand (`body_same`), so their tables of bodies are (`defs_same`) and a run of one is a
   run of the other. -/
module

public import proofs.«01_k».proof.Proof.Launch
public import proofs.«01_k».proof.Proof.Gen.Kernel

@[expose] public section

set_option maxRecDepth 65536

noncomputable section

namespace Cert.Fan

open Idealize.ShloMosaic Idealize.ShloMosaic.TcCoe Idealize.SL.Sem

variable {F : FTy → Type} [FloatOps F]

/-- The two kernels' bodies are one. -/
theorem body_same : Cert.Kernel.cc0_body (F := F) = Cert.KernelIdeal.cc0_body (F := F) := rfl

/-- So are the kernels' body tables. -/
theorem bodies_same : Cert.Kernel.defs₀ (F := F) = Cert.KernelIdeal.defs₀ (F := F) := by
  unfold Cert.Kernel.defs₀ Cert.KernelIdeal.defs₀
  refine congrArg (Defs.onTc (Λ := Cert.KernelIdeal.Λ₀)) (funext fun l => funext fun a => ?_)
  match l, a with
  | 0, (t, s) => rw [body_same]

/-- So are the whole tables. -/
theorem defs_same : Cert.Kernel.defs (F := F) = Cert.KernelIdeal.defs (F := F) :=
  congrArg (Idealize.ShloMosaic.Pipeline.defs Cert.KernelIdeal.pcfgs) bodies_same

/-- The frame of the kernel as it was printed. -/
theorem frame_same (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)) ∧ r.2.sem = fun _ => 0) := by
  rw [defs_same]
  exact frame_run m ρ

end Cert.Fan

end
-- ==== Proof.Lines.lean ====
/- The reference's result as one function of its arguments.

   The reference runs at one point, whose blocks are the whole arrays, so its result array is the program's one payload
   at the argument arrays. -/
module

public import proofs.«01_k».proof.Proof.Gen.ReferenceIdeal.Value
public import Idealize.ShloMosaic.Lib.Pipeline.ValueKit.Geometry
public import Idealize.ShloMosaic.Lib.Pipeline.ValueKit.Acc

@[expose] public section

set_option maxRecDepth 8192

noncomputable section

namespace Cert.Lines

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The only place of a one-word array. -/
def only : S1.Idx := fun a => ⟨0, by fin_cases a; exact Nat.one_pos⟩
theorem only_eq (i : S1.Idx) : i = only := funext fun a => Fin.ext (by
  have h : (i a).val < 1 := by fin_cases a; exact (i 0).isLt
  show (i a).val = 0
  omega)

/-- The reference's result, from its arguments. -/
def result (x : Vec F S4096x4096 .fp8e4m3) (w : Vec F S4096x2048 .fp8e4m3) (sx sw : Vec F S1 .f32) : Vec F S4096x2048 .f32 :=
  k0_pay1 x w (sx only) (sw only)

/-- Every window's one block starts at the origin. -/
theorem whole0 : ∀ (t : Fin cfg0.N), win0_0.index t = ![0, 0] := (by decide +kernel : ∀ t : Fin grid0.N, _)
theorem whole1 : ∀ (t : Fin cfg0.N), win0_1.index t = ![0, 0] := (by decide +kernel : ∀ t : Fin grid0.N, _)
theorem whole2 : ∀ (t : Fin cfg0.N), win0_2.index t = ![0] := (by decide +kernel : ∀ t : Fin grid0.N, _)
theorem whole3 : ∀ (t : Fin cfg0.N), win0_3.index t = ![0] := (by decide +kernel : ∀ t : Fin grid0.N, _)
theorem whole4 : ∀ (t : Fin cfg0.N), win0_4.index t = ![0, 0] := (by decide +kernel : ∀ t : Fin grid0.N, _)

/-- So the block of an argument is the argument. -/
theorem block0 (c : Dev nD) (t : Fin cfg0.N) : iblk m c 0 t = m ((c : Thread nD τ).loc main_arg0) :=
  funext fun j => by blk_simp [iblk]; exact congrArg _ (by blk_ext [whole0])
theorem block1 (c : Dev nD) (t : Fin cfg0.N) : iblk m c 1 t = m ((c : Thread nD τ).loc main_arg1) :=
  funext fun j => by blk_simp [iblk]; exact congrArg _ (by blk_ext [whole1])
theorem block2 (c : Dev nD) (t : Fin cfg0.N) : iblk m c 2 t = m ((c : Thread nD τ).loc main_arg2) :=
  funext fun j => by blk_simp [iblk]; exact congrArg _ (by blk_ext [whole2])
theorem block3 (c : Dev nD) (t : Fin cfg0.N) : iblk m c 3 t = m ((c : Thread nD τ).loc main_arg3) :=
  funext fun j => by blk_simp [iblk]; exact congrArg _ (by blk_ext [whole3])

/-- The result array at the end. -/
theorem final_result (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  have he : ∀ j, ((cfg0.win 4).blk t).view.emb j = j := fun j => by blk_ext [whole4]
  have h0 : View.read (Elt F) (View.whole cc0_stg0_0) ((hs0_0 t).unread (iblk m c 0 t)) = m ((c : Thread nD τ).loc main_arg0) :=
    ((hs0_0 t).read_unread _).trans (block0 m c t)
  have h1 : View.read (Elt F) (View.whole cc0_stg1_0) ((hs0_1 t).unread (iblk m c 1 t)) = m ((c : Thread nD τ).loc main_arg1) :=
    ((hs0_1 t).read_unread _).trans (block1 m c t)
  have h2 : View.read (Elt F) (View.whole cc0_stg2_0) ((hs0_2 t).unread (iblk m c 2 t)) = m ((c : Thread nD τ).loc main_arg2) :=
    ((hs0_2 t).read_unread _).trans (block2 m c t)
  have h3 : View.read (Elt F) (View.whole cc0_stg3_0) ((hs0_3 t).unread (iblk m c 3 t)) = m ((c : Thread nD τ).loc main_arg3) :=
    ((hs0_3 t).read_unread _).trans (block3 m c t)
  rw [h0, h1, h2, h3, only_eq (Shape.Idx.first _)]
  exact congrArg _ (he y).symm

/-- The reference's run: its result array is `result` of its arguments, which are as they were. -/
theorem run_result : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_result m c), (h c).2⟩) (Cert.ReferenceIdeal.Value.run_blocks m ρ)

end Cert.Lines

end
-- ==== Proof.Product.lean ====
/- One entry of a result, over the ideal values: a row times a column, scaled and cut off at zero. Both programs' results
   are stated by it. -/
module

public import Idealize.ShloMosaic.Lib.MatmulPlain
public import Idealize.ShloMosaic.Lib.ValueLayout

@[expose] public section

noncomputable section

namespace Cert

open Idealize.ShloMosaic

/-- A row times a column, scaled by `sc` and cut off at zero. -/
def entry (sc : EReal) (u v : Fin 4096 → EReal) : EReal :=
  max ((Ideal.ofBits .f32 0x00000000#32 + ∑ k, u k * v k) * sc) (Ideal.ofBits .f32 0x00000000#32)

end Cert

end
-- ==== Proof.Result.lean ====
/- The kernel's result, entry by entry.

   At the end of the run a device's result array is `outAt` (`final_out`). Over the ideal values an entry of it is a row
   of the owner's lines times a column of the device's own matrix, scaled and cut off at zero (`out_entry`). -/
module

public import proofs.«01_k».proof.Proof.Launch
public import proofs.«01_k».proof.Proof.Product
public import Idealize.ShloMosaic.Lib.Pipeline.ValueKit.Geometry

@[expose] public section

set_option maxRecDepth 8192

noncomputable section

namespace Cert.Fan

open Cert.KernelIdeal Cert.KernelIdeal.Gen
open Idealize.ShloMosaic Idealize.ShloMosaic.TcCoe Idealize.SL.Sem
open Idealize.ShloMosaic.ValueIdx (ix2 ix3 eq_ix2)

section AnyValues

variable {F : FTy → Type} [FloatOps F]
variable (m : (ℓ : Loc nD τ sig) → Buf (Elt F) ℓ)

/-- Every window's one block starts at the origin. -/
theorem at0 : ∀ (t : Fin cfg0.N), win0_0.index t = ![0, 0] := (by decide +kernel : ∀ t : Fin grid0.N, _)
theorem at1 : ∀ (t : Fin cfg0.N), win0_1.index t = ![0, 0] := (by decide +kernel : ∀ t : Fin grid0.N, _)
theorem at2 : ∀ (t : Fin cfg0.N), win0_2.index t = ![0] := (by decide +kernel : ∀ t : Fin grid0.N, _)
theorem at3 : ∀ (t : Fin cfg0.N), win0_3.index t = ![0] := (by decide +kernel : ∀ t : Fin grid0.N, _)
theorem at4 : ∀ (t : Fin cfg0.N), win0_4.index t = ![0, 0] := (by decide +kernel : ∀ t : Fin grid0.N, _)

/-- So the block of an argument is the argument. -/
theorem xin_eq (c : Dev nD) : xin m c = m ((c : Thread nD τ).loc main_arg0) :=
  funext fun j => by unfold xin; blk_simp; exact congrArg _ (by blk_ext [show win0_0.index (0 : Fin 1) = ![0, 0] from at0 _])
theorem win_eq (c : Dev nD) : win m c = m ((c : Thread nD τ).loc main_arg1) :=
  funext fun j => by unfold win; blk_simp; exact congrArg _ (by blk_ext [show win0_1.index (0 : Fin 1) = ![0, 0] from at1 _])
theorem sxin_eq (c : Dev nD) : sxin m c = m ((c : Thread nD τ).loc main_arg2) :=
  funext fun j => by unfold sxin; blk_simp; exact congrArg _ (by blk_ext [show win0_2.index (0 : Fin 1) = ![0] from at2 _])
theorem swin_eq (c : Dev nD) : swin m c = m ((c : Thread nD τ).loc main_arg3) :=
  funext fun j => by unfold swin; blk_simp; exact congrArg _ (by blk_ext [show win0_3.index (0 : Fin 1) = ![0] from at3 _])

/-- The result array at the end: every tile is right. -/
theorem final_out (c : Dev nD) : finalA m c (4 : Fin 5) = outAt m (scale m c) c := by
  unfold finalA
  refine (dats m 0 c).arrAt_eq_of_covers 4 _ (by decide +kernel) fun t hf y => ?_
  blk_simp
  show outAt m (scale m c) c y = _
  exact congrArg _ (by blk_ext [at4])

/-- The only place of a one-word array. -/
def word : S1.Idx := fun a => ⟨0, by fin_cases a; exact Nat.one_pos⟩
theorem word_eq (i : S1.Idx) : i = word := funext fun a => Fin.ext (by
  have h : (i a).val < 1 := by fin_cases a; exact (i 0).isLt
  show (i a).val = 0
  omega)

/-- The scale is the product of the two words. -/
theorem scale_eq (c : Dev nD) : scale m c = Scalar.mulf (m ((c : Thread nD τ).loc main_arg2) word) (m ((c : Thread nD τ).loc main_arg3) word) := by
  unfold scale k0_pay5
  rw [sxin_eq, swin_eq]
  exact congrArg₂ _ (congrArg (m ((c : Thread nD τ).loc main_arg2)) (word_eq _)) (congrArg (m ((c : Thread nD τ).loc main_arg3)) (word_eq _))

/-- A half's rows, as rows of the lines. -/
theorem slab_entry (o : Dev nD) (s : Fin 2) (u : Fin 1) (r : Fin 128) (k : Fin 4096) :
    slab m o s (ix3 u r k) = m ((o : Thread nD τ).loc main_arg0) (ix2 (⟨128 * s.val + r.val, by omega⟩ : Fin 256) k) := by
  unfold slab k0_pay1
  dsimp only
  rw [ValueIdx.shapeCast_ab_1ab_apply, shapeCast_self, xin_eq]
  refine congrArg (m ((o : Thread nD τ).loc main_arg0)) (funext fun a => Fin.ext ?_)
  fin_cases a
  · show 128 * s.val + 1 * r.val = 128 * s.val + r.val; omega
  · show 0 + 1 * k.val = k.val; omega

/-- The stored columns are the device's columns. -/
theorem cols_entry (c : Dev nD) : cols m c = m ((c : Thread nD τ).loc main_arg1) := by
  unfold cols k0_pay4
  simp only [shapeCast_self]
  exact win_eq m c

end AnyValues

variable (m : (ℓ : Loc nD τ sig) → Buf (Elt Ideal) ℓ)

/-- An entry of a tile. -/
theorem tile_entry (sc : EReal) (c o : Dev nD) (s : Fin 2) (r l : Fin 128) :
    tile m sc c o s (ix2 r l) = entry sc (fun k => m ((o : Thread nD τ).loc main_arg0) (ix2 (⟨128 * s.val + r.val, by omega⟩ : Fin 256) k))
      (fun k => m ((c : Thread nD τ).loc main_arg1) (ix2 k l)) := by
  unfold tile k0_pay8
  rw [cols_entry]
  refine congrArg (fun z : EReal => max (z * sc) (Ideal.ofBits .f32 0x00000000#32)) ?_
  refine (Idealize.ShloMosaic.Ideal.matmul_plain_apply none _ _ _ r l).trans ?_
  refine congrArg (fun z : EReal => Ideal.ofBits .f32 0x00000000#32 + z) (Finset.sum_congr rfl fun k _ => ?_)
  rw [ValueIdx.shapeCast_1ab_ab_apply, slab_entry]

/-- An entry of the result. -/
theorem out_entry (sc : EReal) (c : Dev nD) (i : S4096x128.Idx) :
    outAt m sc c i = entry sc (fun k => m ((ownerOf i : Thread nD τ).loc main_arg0) (ix2 (⟨(i 0).val % 256, Nat.mod_lt _ (by decide)⟩ : Fin 256) k))
      (fun k => m ((c : Thread nD τ).loc main_arg1) (ix2 k (i 1))) := by
  unfold outAt
  refine (congrArg _ (eq_ix2 (placeOf i))).trans ((tile_entry m sc c (ownerOf i) (halfOf i) (placeOf i 0) (placeOf i 1)).trans ?_)
  refine congrArg₂ _ (funext fun k => congrArg (fun z => m ((ownerOf i : Thread nD τ).loc main_arg0) (ix2 (z : Fin 256) k)) (Fin.ext ?_)) rfl
  show 128 * ((i 0).val / 128 % 2) + (i 0).val % 128 = (i 0).val % 256
  omega

end Cert.Fan

end
-- ==== Proof.Agree.lean ====
/- The two programs' results agree over the ideal values.

   Every device's result is its block of columns of the reference's result (`agree`): an entry of either is the same row
   of lines times the same column, scaled by the same product. -/
module

public import proofs.«01_k».proof.Proof.Lines
public import proofs.«01_k».proof.Proof.Result
public import Idealize.ShloMosaic.Lib.Layout

@[expose] public section

set_option maxRecDepth 8192

noncomputable section

namespace Cert.Agree

open Idealize.ShloMosaic Idealize.ShloMosaic.TcCoe Idealize.SL.Sem
open Idealize.ShloMosaic.ValueIdx (ix2 eq_ix2)
open Cert.Fan (ownerOf outAt scale out_entry scale_eq)

/-- An entry of the reference's result. -/
theorem lines_entry (x : Vec Ideal Cert.ReferenceIdeal.S4096x4096 .fp8e4m3) (w : Vec Ideal Cert.ReferenceIdeal.S4096x2048 .fp8e4m3)
    (sx sw : Vec Ideal Cert.ReferenceIdeal.S1 .f32) (r : Fin 4096) (l : Fin 2048) :
    Cert.Lines.result x w sx sw (ix2 r l)
      = entry (Scalar.mulf (F := Ideal) (φ := .f32) (sx Cert.Lines.only) (sw Cert.Lines.only)) (fun k => x (ix2 r k)) (fun k => w (ix2 k l)) := by
  unfold Cert.Lines.result Cert.ReferenceIdeal.Gen.k0_pay1
  refine congrArg (fun z : EReal => max (z * Scalar.mulf (F := Ideal) (φ := .f32) (sx Cert.Lines.only) (sw Cert.Lines.only)) (Ideal.ofBits .f32 0x00000000#32)) ?_
  exact Ideal.matmul_plain_apply none _ _ _ r l

variable (m : (ℓ : Loc Cert.KernelIdeal.nD Cert.KernelIdeal.τ Cert.KernelIdeal.sig) → Buf (Elt Ideal) ℓ)

/-- With every device's arguments its parts of whole arrays, its result is its block of columns of the reference's. -/
theorem agree (x : Vec Ideal Cert.ReferenceIdeal.S4096x4096 .fp8e4m3) (w : Vec Ideal Cert.ReferenceIdeal.S4096x2048 .fp8e4m3)
    (sx sw : Vec Ideal Cert.ReferenceIdeal.S1 .f32)
    (h0 : ∀ c : Dev Cert.KernelIdeal.nD, m ((c : Thread Cert.KernelIdeal.nD Cert.KernelIdeal.τ).loc Cert.KernelIdeal.main_arg0)
      = Layout.block ⟨2, ![256, 4096]⟩ ⟨2, ![4096, 4096]⟩ 0 16 c x)
    (h1 : ∀ c : Dev Cert.KernelIdeal.nD, m ((c : Thread Cert.KernelIdeal.nD Cert.KernelIdeal.τ).loc Cert.KernelIdeal.main_arg1)
      = Layout.block ⟨2, ![4096, 128]⟩ ⟨2, ![4096, 2048]⟩ 1 16 c w)
    (h2 : ∀ c : Dev Cert.KernelIdeal.nD, m ((c : Thread Cert.KernelIdeal.nD Cert.KernelIdeal.τ).loc Cert.KernelIdeal.main_arg2) = sx)
    (h3 : ∀ c : Dev Cert.KernelIdeal.nD, m ((c : Thread Cert.KernelIdeal.nD Cert.KernelIdeal.τ).loc Cert.KernelIdeal.main_arg3) = sw)
    (c : Dev Cert.KernelIdeal.nD) :
    outAt m (scale m c) c = Layout.block ⟨2, ![4096, 128]⟩ ⟨2, ![4096, 2048]⟩ 1 16 c (Cert.Lines.result x w sx sw) := by
  funext i
  have hc : c.val < 16 := c.isLt
  have hr : (i 0).val < 4096 := (i 0).isLt
  have hl : (i 1).val < 128 := (i 1).isLt
  have e : (by decide : Layout.Tiles ⟨2, ![4096, 128]⟩ ⟨2, ![4096, 2048]⟩ 1 16).idx c i
      = ix2 (⟨(i 0).val, hr⟩ : Fin 4096) (⟨c.val * 128 + (i 1).val, by omega⟩ : Fin 2048) := by
    funext a
    fin_cases a <;> rfl
  rw [Layout.block_apply, e, lines_entry, out_entry, scale_eq, h2, h3, h1]
  refine congrArg₂ (entry _) (funext fun k => ?_) (funext fun k => ?_)
  · rw [h0, Layout.block_apply]
    refine congrArg x (funext fun a => Fin.ext ?_)
    fin_cases a
    · show (i 0).val / 256 * 256 + (i 0).val % 256 = (i 0).val; omega
    · rfl
  · rw [Layout.block_apply]
    refine congrArg w (funext fun a => Fin.ext ?_)
    fin_cases a <;> rfl

end Cert.Agree

end
-- ==== Proof.lean ====
/- The claims, assembled.

   Over any float values every fair execution of the kernel's sixteen devices ends with the arguments as they were and
   every counter at zero (`Fan.frame_run`). Over the ideal values each device's result is its block of columns of the
   reference's result (`algebraic`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel ends, its arguments and counters as they were, on the machine's floats. -/
theorem frame_kernel : Cert.quiescent_Kernel := fun m ρ _ => Fan.frame_same (F := Bits) m ρ

/-- The same over the ideal values. -/
theorem frame_kernelIdeal : Cert.quiescent_KernelIdeal := fun m ρ _ => Fan.frame_run m ρ

/-- The reference ends, its arguments and counters as they were, over the ideal values. -/
theorem frame_referenceIdeal : Cert.quiescent_ReferenceIdeal := fun m ρ _ => Cert.ReferenceIdeal.Gen.frame m ρ

/-- Over the ideal values each device's result is its block of columns of the reference's result. -/
theorem algebraic : Cert.algebraic_KernelIdeal_ReferenceIdeal := by
  intro m g m' g' _ hm
  refine ⟨_, (θ_run Cert.KernelIdeal.defs _ _).mono ?_ (Fan.run_main m g),
    (θ_run Cert.ReferenceIdeal.defs _ _).mono (fun _ h => h 0) (Lines.run_result m' g')⟩
  intro r h c
  refine ⟨((h.1 c (4 : Fin 5)).trans (Fan.final_out m c)).trans
      (Agree.agree m _ _ _ _ (fun d => (hm d).1) (fun d => (hm d).2.1) (fun d => (hm d).2.2.1) (fun d => (hm d).2.2.2) c),
    (h.1 c (0 : Fin 5)).trans (Fan.finalA_in m c (0 : Fin 5) rfl), (h.1 c (1 : Fin 5)).trans (Fan.finalA_in m c (1 : Fin 5) rfl),
    (h.1 c (2 : Fin 5)).trans (Fan.finalA_in m c (2 : Fin 5) rfl), (h.1 c (3 : Fin 5)).trans (Fan.finalA_in m c (3 : Fin 5) rfl)⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
